-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S3x128x256 : Shape := ⟨3, ![3, 128, 256]⟩
abbrev S3x256x128 : Shape := ⟨3, ![3, 256, 128]⟩
abbrev S8x128 : Shape := ⟨2, ![8, 128]⟩
abbrev S3x16x8x128 : Shape := ⟨4, ![3, 16, 8, 128]⟩
abbrev S3x128x128 : Shape := ⟨3, ![3, 128, 128]⟩
abbrev S7 : Shape := ⟨1, ![7]⟩
abbrev S3x16 : Shape := ⟨2, ![3, 16]⟩
abbrev S_ : Shape := ⟨0, ![]⟩
abbrev S1 : Shape := ⟨1, ![1]⟩
abbrev S1x128x256 : Shape := ⟨3, ![1, 128, 256]⟩
abbrev S1x256x128 : Shape := ⟨3, ![1, 256, 128]⟩
abbrev S1x1 : Shape := ⟨2, ![1, 1]⟩
abbrev S1x1x8x128 : Shape := ⟨4, ![1, 1, 8, 128]⟩
abbrev S1x8x128 : Shape := ⟨3, ![1, 8, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S3x128x256, .f32⟩
  | .local _ .vmem, ⟨3, _⟩ => ⟨S3x256x128, .f32⟩
  | .local _ .vmem, ⟨4, _⟩ => ⟨S128x128, .f32⟩
  | .local _ .vmem, ⟨5, _⟩ => ⟨S8x128, .f32⟩
  | .local _ .vmem, ⟨6, _⟩ => ⟨S3x16x8x128, .f32⟩
  | .local _ .vmem, ⟨7, _⟩ => ⟨S3x128x128, .f32⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_106 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v112 : BitVec 32 := Scalar.addi v2 c1_i32_106
  let c16_i32_107 : BitVec 32 := 16#32
  let v113 : BitVec 32 := Scalar.remsi v112 c16_i32_107
  let c8_i32_108 : BitVec 32 := 8#32
  let v114 : BitVec 32 := Scalar.muli v113 c8_i32_108
  let c0_i32_119 : BitVec 32 := 0#32
  ![v114.toNat, 0]
def k0_dev16 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v112 : BitVec 32 := Scalar.addi v2 c1_i32_106
  let c16_i32_107 : BitVec 32 := 16#32
  let v113 : BitVec 32 := Scalar.remsi v112 c16_i32_107
  let c1_i32_115 : BitVec 32 := 1#32
  let v115 : BitVec 32 := Scalar.muli v113 c1_i32_115
  let v116 : BitVec 32 := Scalar.addi c0_i32_116 v115
  v116.toNat
def k0_dev17 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_120 : BitVec 32 := 2#32
  let v124 : BitVec 32 := Scalar.addi v2 c2_i32_120
  let c16_i32_121 : BitVec 32 := 16#32
  let v125 : BitVec 32 := Scalar.remsi v124 c16_i32_121
  let c1_i32_129 : BitVec 32 := 1#32
  let v127 : BitVec 32 := Scalar.muli v125 c1_i32_129
  let v128 : BitVec 32 := Scalar.addi c0_i32_130 v127
  v128.toNat
def k0_dev18 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_134 : BitVec 32 := 3#32
  let v136 : BitVec 32 := Scalar.addi v2 c3_i32_134
  let c16_i32_135 : BitVec 32 := 16#32
  let v137 : BitVec 32 := Scalar.remsi v136 c16_i32_135
  let c1_i32_143 : BitVec 32 := 1#32
  let v139 : BitVec 32 := Scalar.muli v137 c1_i32_143
  let v140 : BitVec 32 := Scalar.addi c0_i32_144 v139
  v140.toNat
def k0_dev19 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_148 : BitVec 32 := 4#32
  let v148 : BitVec 32 := Scalar.addi v2 c4_i32_148
  let c16_i32_149 : BitVec 32 := 16#32
  let v149 : BitVec 32 := Scalar.remsi v148 c16_i32_149
  let c1_i32_157 : BitVec 32 := 1#32
  let v151 : BitVec 32 := Scalar.muli v149 c1_i32_157
  let v152 : BitVec 32 := Scalar.addi c0_i32_158 v151
  v152.toNat
def k0_dev20 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_162 : BitVec 32 := 5#32
  let v160 : BitVec 32 := Scalar.addi v2 c5_i32_162
  let c16_i32_163 : BitVec 32 := 16#32
  let v161 : BitVec 32 := Scalar.remsi v160 c16_i32_163
  let c1_i32_171 : BitVec 32 := 1#32
  let v163 : BitVec 32 := Scalar.muli v161 c1_i32_171
  let v164 : BitVec 32 := Scalar.addi c0_i32_172 v163
  v164.toNat
def k0_dev21 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_176 : BitVec 32 := 6#32
  let v172 : BitVec 32 := Scalar.addi v2 c6_i32_176
  let c16_i32_177 : BitVec 32 := 16#32
  let v173 : BitVec 32 := Scalar.remsi v172 c16_i32_177
  let c1_i32_185 : BitVec 32 := 1#32
  let v175 : BitVec 32 := Scalar.muli v173 c1_i32_185
  let v176 : BitVec 32 := Scalar.addi c0_i32_186 v175
  v176.toNat
def k0_dev22 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_190 : BitVec 32 := 7#32
  let v184 : BitVec 32 := Scalar.addi v2 c7_i32_190
  let c16_i32_191 : BitVec 32 := 16#32
  let v185 : BitVec 32 := Scalar.remsi v184 c16_i32_191
  let c1_i32_199 : BitVec 32 := 1#32
  let v187 : BitVec 32 := Scalar.muli v185 c1_i32_199
  let v188 : BitVec 32 := Scalar.addi c0_i32_200 v187
  v188.toNat
def k0_dev23 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_204 : BitVec 32 := 8#32
  let v196 : BitVec 32 := Scalar.addi v2 c8_i32_204
  let c16_i32_205 : BitVec 32 := 16#32
  let v197 : BitVec 32 := Scalar.remsi v196 c16_i32_205
  let c1_i32_213 : BitVec 32 := 1#32
  let v199 : BitVec 32 := Scalar.muli v197 c1_i32_213
  let v200 : BitVec 32 := Scalar.addi c0_i32_214 v199
  v200.toNat
def k0_dev24 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_218 : BitVec 32 := 9#32
  let v208 : BitVec 32 := Scalar.addi v2 c9_i32_218
  let c16_i32_219 : BitVec 32 := 16#32
  let v209 : BitVec 32 := Scalar.remsi v208 c16_i32_219
  let c1_i32_227 : BitVec 32 := 1#32
  let v211 : BitVec 32 := Scalar.muli v209 c1_i32_227
  let v212 : BitVec 32 := Scalar.addi c0_i32_228 v211
  v212.toNat
def k0_dev25 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_232 : BitVec 32 := 10#32
  let v220 : BitVec 32 := Scalar.addi v2 c10_i32_232
  let c16_i32_233 : BitVec 32 := 16#32
  let v221 : BitVec 32 := Scalar.remsi v220 c16_i32_233
  let c1_i32_241 : BitVec 32 := 1#32
  let v223 : BitVec 32 := Scalar.muli v221 c1_i32_241
  let v224 : BitVec 32 := Scalar.addi c0_i32_242 v223
  v224.toNat
def k0_dev26 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_246 : BitVec 32 := 11#32
  let v232 : BitVec 32 := Scalar.addi v2 c11_i32_246
  let c16_i32_247 : BitVec 32 := 16#32
  let v233 : BitVec 32 := Scalar.remsi v232 c16_i32_247
  let c1_i32_255 : BitVec 32 := 1#32
  let v235 : BitVec 32 := Scalar.muli v233 c1_i32_255
  let v236 : BitVec 32 := Scalar.addi c0_i32_256 v235
  v236.toNat
def k0_dev27 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_260 : BitVec 32 := 12#32
  let v244 : BitVec 32 := Scalar.addi v2 c12_i32_260
  let c16_i32_261 : BitVec 32 := 16#32
  let v245 : BitVec 32 := Scalar.remsi v244 c16_i32_261
  let c1_i32_269 : BitVec 32 := 1#32
  let v247 : BitVec 32 := Scalar.muli v245 c1_i32_269
  let v248 : BitVec 32 := Scalar.addi c0_i32_270 v247
  v248.toNat
def k0_dev28 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_274 : BitVec 32 := 13#32
  let v256 : BitVec 32 := Scalar.addi v2 c13_i32_274
  let c16_i32_275 : BitVec 32 := 16#32
  let v257 : BitVec 32 := Scalar.remsi v256 c16_i32_275
  let c1_i32_283 : BitVec 32 := 1#32
  let v259 : BitVec 32 := Scalar.muli v257 c1_i32_283
  let v260 : BitVec 32 := Scalar.addi c0_i32_284 v259
  v260.toNat
def k0_dev29 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_288 : BitVec 32 := 14#32
  let v268 : BitVec 32 := Scalar.addi v2 c14_i32_288
  let c16_i32_289 : BitVec 32 := 16#32
  let v269 : BitVec 32 := Scalar.remsi v268 c16_i32_289
  let c1_i32_297 : BitVec 32 := 1#32
  let v271 : BitVec 32 := Scalar.muli v269 c1_i32_297
  let v272 : BitVec 32 := Scalar.addi c0_i32_298 v271
  v272.toNat
def k0_dev30 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_302 : BitVec 32 := 15#32
  let v280 : BitVec 32 := Scalar.addi v2 c15_i32_302
  let c16_i32_303 : BitVec 32 := 16#32
  let v281 : BitVec 32 := Scalar.remsi v280 c16_i32_303
  let c1_i32_311 : BitVec 32 := 1#32
  let v283 : BitVec 32 := Scalar.muli v281 c1_i32_311
  let v284 : BitVec 32 := Scalar.addi c0_i32_312 v283
  v284.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_316 : BitVec 32 := 8#32
  let v292 : BitVec 32 := Scalar.muli v2 c8_i32_316
  let v293 : Index := Scalar.indexCast v292
  let c0_317 : Index := 0#32
  ![v293.toNat, 0]
def k0_off3 (d0 : Dev nD) : Fin 3 → Nat :=
  let c0_576 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_575 : BitVec 32 := 8#32
  let v463 : BitVec 32 := Scalar.muli v2 c8_i32_575
  let v464 : Index := Scalar.indexCast v463
  let c0_577 : Index := 0#32
  ![0, v464.toNat, 0]
def k0_off4 (d0 : Dev nD) : Fin 3 → Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_580 : BitVec 32 := 8#32
  let v470 : BitVec 32 := Scalar.muli v2 c8_i32_580
  let c0_i32_588 : BitVec 32 := 0#32
  ![0, v470.toNat, 0]
def k0_dev31 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_578 : BitVec 32 := 1#32
  let v468 : BitVec 32 := Scalar.addi v2 c1_i32_578
  let c16_i32_579 : BitVec 32 := 16#32
  let v469 : BitVec 32 := Scalar.remsi v468 c16_i32_579
  let c1_i32_586 : BitVec 32 := 1#32
  let v471 : BitVec 32 := Scalar.muli v469 c1_i32_586
  let v472 : BitVec 32 := Scalar.addi c0_i32_587 v471
  v472.toNat
def k0_dev32 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_589 : BitVec 32 := 2#32
  let v479 : BitVec 32 := Scalar.addi v2 c2_i32_589
  let c16_i32_590 : BitVec 32 := 16#32
  let v480 : BitVec 32 := Scalar.remsi v479 c16_i32_590
  let c1_i32_597 : BitVec 32 := 1#32
  let v482 : BitVec 32 := Scalar.muli v480 c1_i32_597
  let v483 : BitVec 32 := Scalar.addi c0_i32_598 v482
  v483.toNat
def k0_dev33 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_600 : BitVec 32 := 3#32
  let v490 : BitVec 32 := Scalar.addi v2 c3_i32_600
  let c16_i32_601 : BitVec 32 := 16#32
  let v491 : BitVec 32 := Scalar.remsi v490 c16_i32_601
  let c1_i32_608 : BitVec 32 := 1#32
  let v493 : BitVec 32 := Scalar.muli v491 c1_i32_608
  let v494 : BitVec 32 := Scalar.addi c0_i32_609 v493
  v494.toNat
def k0_dev34 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_611 : BitVec 32 := 4#32
  let v501 : BitVec 32 := Scalar.addi v2 c4_i32_611
  let c16_i32_612 : BitVec 32 := 16#32
  let v502 : BitVec 32 := Scalar.remsi v501 c16_i32_612
  let c1_i32_619 : BitVec 32 := 1#32
  let v504 : BitVec 32 := Scalar.muli v502 c1_i32_619
  let v505 : BitVec 32 := Scalar.addi c0_i32_620 v504
  v505.toNat
def k0_dev35 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_622 : BitVec 32 := 5#32
  let v512 : BitVec 32 := Scalar.addi v2 c5_i32_622
  let c16_i32_623 : BitVec 32 := 16#32
  let v513 : BitVec 32 := Scalar.remsi v512 c16_i32_623
  let c1_i32_630 : BitVec 32 := 1#32
  let v515 : BitVec 32 := Scalar.muli v513 c1_i32_630
  let v516 : BitVec 32 := Scalar.addi c0_i32_631 v515
  v516.toNat
def k0_dev36 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_633 : BitVec 32 := 6#32
  let v523 : BitVec 32 := Scalar.addi v2 c6_i32_633
  let c16_i32_634 : BitVec 32 := 16#32
  let v524 : BitVec 32 := Scalar.remsi v523 c16_i32_634
  let c1_i32_641 : BitVec 32 := 1#32
  let v526 : BitVec 32 := Scalar.muli v524 c1_i32_641
  let v527 : BitVec 32 := Scalar.addi c0_i32_642 v526
  v527.toNat
def k0_dev37 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_644 : BitVec 32 := 7#32
  let v534 : BitVec 32 := Scalar.addi v2 c7_i32_644
  let c16_i32_645 : BitVec 32 := 16#32
  let v535 : BitVec 32 := Scalar.remsi v534 c16_i32_645
  let c1_i32_652 : BitVec 32 := 1#32
  let v537 : BitVec 32 := Scalar.muli v535 c1_i32_652
  let v538 : BitVec 32 := Scalar.addi c0_i32_653 v537
  v538.toNat
def k0_dev38 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_655 : BitVec 32 := 8#32
  let v545 : BitVec 32 := Scalar.addi v2 c8_i32_655
  let c16_i32_656 : BitVec 32 := 16#32
  let v546 : BitVec 32 := Scalar.remsi v545 c16_i32_656
  let c1_i32_663 : BitVec 32 := 1#32
  let v548 : BitVec 32 := Scalar.muli v546 c1_i32_663
  let v549 : BitVec 32 := Scalar.addi c0_i32_664 v548
  v549.toNat
def k0_dev39 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_666 : BitVec 32 := 9#32
  let v556 : BitVec 32 := Scalar.addi v2 c9_i32_666
  let c16_i32_667 : BitVec 32 := 16#32
  let v557 : BitVec 32 := Scalar.remsi v556 c16_i32_667
  let c1_i32_674 : BitVec 32 := 1#32
  let v559 : BitVec 32 := Scalar.muli v557 c1_i32_674
  let v560 : BitVec 32 := Scalar.addi c0_i32_675 v559
  v560.toNat
def k0_dev40 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_677 : BitVec 32 := 10#32
  let v567 : BitVec 32 := Scalar.addi v2 c10_i32_677
  let c16_i32_678 : BitVec 32 := 16#32
  let v568 : BitVec 32 := Scalar.remsi v567 c16_i32_678
  let c1_i32_685 : BitVec 32 := 1#32
  let v570 : BitVec 32 := Scalar.muli v568 c1_i32_685
  let v571 : BitVec 32 := Scalar.addi c0_i32_686 v570
  v571.toNat
def k0_dev41 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_688 : BitVec 32 := 11#32
  let v578 : BitVec 32 := Scalar.addi v2 c11_i32_688
  let c16_i32_689 : BitVec 32 := 16#32
  let v579 : BitVec 32 := Scalar.remsi v578 c16_i32_689
  let c1_i32_696 : BitVec 32 := 1#32
  let v581 : BitVec 32 := Scalar.muli v579 c1_i32_696
  let v582 : BitVec 32 := Scalar.addi c0_i32_697 v581
  v582.toNat
def k0_dev42 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_699 : BitVec 32 := 12#32
  let v589 : BitVec 32 := Scalar.addi v2 c12_i32_699
  let c16_i32_700 : BitVec 32 := 16#32
  let v590 : BitVec 32 := Scalar.remsi v589 c16_i32_700
  let c1_i32_707 : BitVec 32 := 1#32
  let v592 : BitVec 32 := Scalar.muli v590 c1_i32_707
  let v593 : BitVec 32 := Scalar.addi c0_i32_708 v592
  v593.toNat
def k0_dev43 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_710 : BitVec 32 := 13#32
  let v600 : BitVec 32 := Scalar.addi v2 c13_i32_710
  let c16_i32_711 : BitVec 32 := 16#32
  let v601 : BitVec 32 := Scalar.remsi v600 c16_i32_711
  let c1_i32_718 : BitVec 32 := 1#32
  let v603 : BitVec 32 := Scalar.muli v601 c1_i32_718
  let v604 : BitVec 32 := Scalar.addi c0_i32_719 v603
  v604.toNat
def k0_dev44 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_721 : BitVec 32 := 14#32
  let v611 : BitVec 32 := Scalar.addi v2 c14_i32_721
  let c16_i32_722 : BitVec 32 := 16#32
  let v612 : BitVec 32 := Scalar.remsi v611 c16_i32_722
  let c1_i32_729 : BitVec 32 := 1#32
  let v614 : BitVec 32 := Scalar.muli v612 c1_i32_729
  let v615 : BitVec 32 := Scalar.addi c0_i32_730 v614
  v615.toNat
def k0_dev45 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_732 : BitVec 32 := 15#32
  let v622 : BitVec 32 := Scalar.addi v2 c15_i32_732
  let c16_i32_733 : BitVec 32 := 16#32
  let v623 : BitVec 32 := Scalar.remsi v622 c16_i32_733
  let c1_i32_740 : BitVec 32 := 1#32
  let v625 : BitVec 32 := Scalar.muli v623 c1_i32_740
  let v626 : BitVec 32 := Scalar.addi c0_i32_741 v625
  v626.toNat
def k0_dev46 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1155 : BitVec 32 := 1#32
  let v894 : BitVec 32 := Scalar.addi v2 c1_i32_1155
  let c16_i32_1156 : BitVec 32 := 16#32
  let v895 : BitVec 32 := Scalar.remsi v894 c16_i32_1156
  let c1_i32_1164 : BitVec 32 := 1#32
  let v897 : BitVec 32 := Scalar.muli v895 c1_i32_1164
  let v898 : BitVec 32 := Scalar.addi c0_i32_1165 v897
  v898.toNat
def k0_dev47 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1169 : BitVec 32 := 2#32
  let v906 : BitVec 32 := Scalar.addi v2 c2_i32_1169
  let c16_i32_1170 : BitVec 32 := 16#32
  let v907 : BitVec 32 := Scalar.remsi v906 c16_i32_1170
  let c1_i32_1178 : BitVec 32 := 1#32
  let v909 : BitVec 32 := Scalar.muli v907 c1_i32_1178
  let v910 : BitVec 32 := Scalar.addi c0_i32_1179 v909
  v910.toNat
def k0_dev48 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1183 : BitVec 32 := 3#32
  let v918 : BitVec 32 := Scalar.addi v2 c3_i32_1183
  let c16_i32_1184 : BitVec 32 := 16#32
  let v919 : BitVec 32 := Scalar.remsi v918 c16_i32_1184
  let c1_i32_1192 : BitVec 32 := 1#32
  let v921 : BitVec 32 := Scalar.muli v919 c1_i32_1192
  let v922 : BitVec 32 := Scalar.addi c0_i32_1193 v921
  v922.toNat
def k0_dev49 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1197 : BitVec 32 := 4#32
  let v930 : BitVec 32 := Scalar.addi v2 c4_i32_1197
  let c16_i32_1198 : BitVec 32 := 16#32
  let v931 : BitVec 32 := Scalar.remsi v930 c16_i32_1198
  let c1_i32_1206 : BitVec 32 := 1#32
  let v933 : BitVec 32 := Scalar.muli v931 c1_i32_1206
  let v934 : BitVec 32 := Scalar.addi c0_i32_1207 v933
  v934.toNat
def k0_dev50 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1211 : BitVec 32 := 5#32
  let v942 : BitVec 32 := Scalar.addi v2 c5_i32_1211
  let c16_i32_1212 : BitVec 32 := 16#32
  let v943 : BitVec 32 := Scalar.remsi v942 c16_i32_1212
  let c1_i32_1220 : BitVec 32 := 1#32
  let v945 : BitVec 32 := Scalar.muli v943 c1_i32_1220
  let v946 : BitVec 32 := Scalar.addi c0_i32_1221 v945
  v946.toNat
def k0_dev51 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1225 : BitVec 32 := 6#32
  let v954 : BitVec 32 := Scalar.addi v2 c6_i32_1225
  let c16_i32_1226 : BitVec 32 := 16#32
  let v955 : BitVec 32 := Scalar.remsi v954 c16_i32_1226
  let c1_i32_1234 : BitVec 32 := 1#32
  let v957 : BitVec 32 := Scalar.muli v955 c1_i32_1234
  let v958 : BitVec 32 := Scalar.addi c0_i32_1235 v957
  v958.toNat
def k0_dev52 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1239 : BitVec 32 := 7#32
  let v966 : BitVec 32 := Scalar.addi v2 c7_i32_1239
  let c16_i32_1240 : BitVec 32 := 16#32
  let v967 : BitVec 32 := Scalar.remsi v966 c16_i32_1240
  let c1_i32_1248 : BitVec 32 := 1#32
  let v969 : BitVec 32 := Scalar.muli v967 c1_i32_1248
  let v970 : BitVec 32 := Scalar.addi c0_i32_1249 v969
  v970.toNat
def k0_dev53 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1253 : BitVec 32 := 8#32
  let v978 : BitVec 32 := Scalar.addi v2 c8_i32_1253
  let c16_i32_1254 : BitVec 32 := 16#32
  let v979 : BitVec 32 := Scalar.remsi v978 c16_i32_1254
  let c1_i32_1262 : BitVec 32 := 1#32
  let v981 : BitVec 32 := Scalar.muli v979 c1_i32_1262
  let v982 : BitVec 32 := Scalar.addi c0_i32_1263 v981
  v982.toNat
def k0_dev54 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1267 : BitVec 32 := 9#32
  let v990 : BitVec 32 := Scalar.addi v2 c9_i32_1267
  let c16_i32_1268 : BitVec 32 := 16#32
  let v991 : BitVec 32 := Scalar.remsi v990 c16_i32_1268
  let c1_i32_1276 : BitVec 32 := 1#32
  let v993 : BitVec 32 := Scalar.muli v991 c1_i32_1276
  let v994 : BitVec 32 := Scalar.addi c0_i32_1277 v993
  v994.toNat
def k0_dev55 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1281 : BitVec 32 := 10#32
  let v1002 : BitVec 32 := Scalar.addi v2 c10_i32_1281
  let c16_i32_1282 : BitVec 32 := 16#32
  let v1003 : BitVec 32 := Scalar.remsi v1002 c16_i32_1282
  let c1_i32_1290 : BitVec 32 := 1#32
  let v1005 : BitVec 32 := Scalar.muli v1003 c1_i32_1290
  let v1006 : BitVec 32 := Scalar.addi c0_i32_1291 v1005
  v1006.toNat
def k0_dev56 (d0 : Dev nD) : Nat :=
  let c0_i32_1305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1295 : BitVec 32 := 11#32
  let v1014 : BitVec 32 := Scalar.addi v2 c11_i32_1295
  let c16_i32_1296 : BitVec 32 := 16#32
  let v1015 : BitVec 32 := Scalar.remsi v1014 c16_i32_1296
  let c1_i32_1304 : BitVec 32 := 1#32
  let v1017 : BitVec 32 := Scalar.muli v1015 c1_i32_1304
  let v1018 : BitVec 32 := Scalar.addi c0_i32_1305 v1017
  v1018.toNat
def k0_dev57 (d0 : Dev nD) : Nat :=
  let c0_i32_1319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1309 : BitVec 32 := 12#32
  let v1026 : BitVec 32 := Scalar.addi v2 c12_i32_1309
  let c16_i32_1310 : BitVec 32 := 16#32
  let v1027 : BitVec 32 := Scalar.remsi v1026 c16_i32_1310
  let c1_i32_1318 : BitVec 32 := 1#32
  let v1029 : BitVec 32 := Scalar.muli v1027 c1_i32_1318
  let v1030 : BitVec 32 := Scalar.addi c0_i32_1319 v1029
  v1030.toNat
def k0_dev58 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1323 : BitVec 32 := 13#32
  let v1038 : BitVec 32 := Scalar.addi v2 c13_i32_1323
  let c16_i32_1324 : BitVec 32 := 16#32
  let v1039 : BitVec 32 := Scalar.remsi v1038 c16_i32_1324
  let c1_i32_1332 : BitVec 32 := 1#32
  let v1041 : BitVec 32 := Scalar.muli v1039 c1_i32_1332
  let v1042 : BitVec 32 := Scalar.addi c0_i32_1333 v1041
  v1042.toNat
def k0_dev59 (d0 : Dev nD) : Nat :=
  let c0_i32_1347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1337 : BitVec 32 := 14#32
  let v1050 : BitVec 32 := Scalar.addi v2 c14_i32_1337
  let c16_i32_1338 : BitVec 32 := 16#32
  let v1051 : BitVec 32 := Scalar.remsi v1050 c16_i32_1338
  let c1_i32_1346 : BitVec 32 := 1#32
  let v1053 : BitVec 32 := Scalar.muli v1051 c1_i32_1346
  let v1054 : BitVec 32 := Scalar.addi c0_i32_1347 v1053
  v1054.toNat
def k0_dev60 (d0 : Dev nD) : Nat :=
  let c0_i32_1361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1351 : BitVec 32 := 15#32
  let v1062 : BitVec 32 := Scalar.addi v2 c15_i32_1351
  let c16_i32_1352 : BitVec 32 := 16#32
  let v1063 : BitVec 32 := Scalar.remsi v1062 c16_i32_1352
  let c1_i32_1360 : BitVec 32 := 1#32
  let v1065 : BitVec 32 := Scalar.muli v1063 c1_i32_1360
  let v1066 : BitVec 32 := Scalar.addi c0_i32_1361 v1065
  v1066.toNat
def k0_off5 (d0 : Dev nD) : Fin 3 → Nat :=
  let c1_1640 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1639 : BitVec 32 := 8#32
  let v1245 : BitVec 32 := Scalar.muli v2 c8_i32_1639
  let v1246 : Index := Scalar.indexCast v1245
  let c0_1641 : Index := 0#32
  ![1, v1246.toNat, 0]
def k0_off6 (d0 : Dev nD) : Fin 3 → Nat :=
  let c1_i32_1645 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1644 : BitVec 32 := 8#32
  let v1252 : BitVec 32 := Scalar.muli v2 c8_i32_1644
  let c0_i32_1652 : BitVec 32 := 0#32
  ![1, v1252.toNat, 0]
def k0_dev61 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1642 : BitVec 32 := 1#32
  let v1250 : BitVec 32 := Scalar.addi v2 c1_i32_1642
  let c16_i32_1643 : BitVec 32 := 16#32
  let v1251 : BitVec 32 := Scalar.remsi v1250 c16_i32_1643
  let c1_i32_1650 : BitVec 32 := 1#32
  let v1253 : BitVec 32 := Scalar.muli v1251 c1_i32_1650
  let v1254 : BitVec 32 := Scalar.addi c0_i32_1651 v1253
  v1254.toNat
def k0_dev62 (d0 : Dev nD) : Nat :=
  let c0_i32_1662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1653 : BitVec 32 := 2#32
  let v1261 : BitVec 32 := Scalar.addi v2 c2_i32_1653
  let c16_i32_1654 : BitVec 32 := 16#32
  let v1262 : BitVec 32 := Scalar.remsi v1261 c16_i32_1654
  let c1_i32_1661 : BitVec 32 := 1#32
  let v1264 : BitVec 32 := Scalar.muli v1262 c1_i32_1661
  let v1265 : BitVec 32 := Scalar.addi c0_i32_1662 v1264
  v1265.toNat
def k0_dev63 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1664 : BitVec 32 := 3#32
  let v1272 : BitVec 32 := Scalar.addi v2 c3_i32_1664
  let c16_i32_1665 : BitVec 32 := 16#32
  let v1273 : BitVec 32 := Scalar.remsi v1272 c16_i32_1665
  let c1_i32_1672 : BitVec 32 := 1#32
  let v1275 : BitVec 32 := Scalar.muli v1273 c1_i32_1672
  let v1276 : BitVec 32 := Scalar.addi c0_i32_1673 v1275
  v1276.toNat
def k0_dev64 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1675 : BitVec 32 := 4#32
  let v1283 : BitVec 32 := Scalar.addi v2 c4_i32_1675
  let c16_i32_1676 : BitVec 32 := 16#32
  let v1284 : BitVec 32 := Scalar.remsi v1283 c16_i32_1676
  let c1_i32_1683 : BitVec 32 := 1#32
  let v1286 : BitVec 32 := Scalar.muli v1284 c1_i32_1683
  let v1287 : BitVec 32 := Scalar.addi c0_i32_1684 v1286
  v1287.toNat
def k0_dev65 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1686 : BitVec 32 := 5#32
  let v1294 : BitVec 32 := Scalar.addi v2 c5_i32_1686
  let c16_i32_1687 : BitVec 32 := 16#32
  let v1295 : BitVec 32 := Scalar.remsi v1294 c16_i32_1687
  let c1_i32_1694 : BitVec 32 := 1#32
  let v1297 : BitVec 32 := Scalar.muli v1295 c1_i32_1694
  let v1298 : BitVec 32 := Scalar.addi c0_i32_1695 v1297
  v1298.toNat
def k0_dev66 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1697 : BitVec 32 := 6#32
  let v1305 : BitVec 32 := Scalar.addi v2 c6_i32_1697
  let c16_i32_1698 : BitVec 32 := 16#32
  let v1306 : BitVec 32 := Scalar.remsi v1305 c16_i32_1698
  let c1_i32_1705 : BitVec 32 := 1#32
  let v1308 : BitVec 32 := Scalar.muli v1306 c1_i32_1705
  let v1309 : BitVec 32 := Scalar.addi c0_i32_1706 v1308
  v1309.toNat
def k0_dev67 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1708 : BitVec 32 := 7#32
  let v1316 : BitVec 32 := Scalar.addi v2 c7_i32_1708
  let c16_i32_1709 : BitVec 32 := 16#32
  let v1317 : BitVec 32 := Scalar.remsi v1316 c16_i32_1709
  let c1_i32_1716 : BitVec 32 := 1#32
  let v1319 : BitVec 32 := Scalar.muli v1317 c1_i32_1716
  let v1320 : BitVec 32 := Scalar.addi c0_i32_1717 v1319
  v1320.toNat
def k0_dev68 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1719 : BitVec 32 := 8#32
  let v1327 : BitVec 32 := Scalar.addi v2 c8_i32_1719
  let c16_i32_1720 : BitVec 32 := 16#32
  let v1328 : BitVec 32 := Scalar.remsi v1327 c16_i32_1720
  let c1_i32_1727 : BitVec 32 := 1#32
  let v1330 : BitVec 32 := Scalar.muli v1328 c1_i32_1727
  let v1331 : BitVec 32 := Scalar.addi c0_i32_1728 v1330
  v1331.toNat
def k0_dev69 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1730 : BitVec 32 := 9#32
  let v1338 : BitVec 32 := Scalar.addi v2 c9_i32_1730
  let c16_i32_1731 : BitVec 32 := 16#32
  let v1339 : BitVec 32 := Scalar.remsi v1338 c16_i32_1731
  let c1_i32_1738 : BitVec 32 := 1#32
  let v1341 : BitVec 32 := Scalar.muli v1339 c1_i32_1738
  let v1342 : BitVec 32 := Scalar.addi c0_i32_1739 v1341
  v1342.toNat
def k0_dev70 (d0 : Dev nD) : Nat :=
  let c0_i32_1750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1741 : BitVec 32 := 10#32
  let v1349 : BitVec 32 := Scalar.addi v2 c10_i32_1741
  let c16_i32_1742 : BitVec 32 := 16#32
  let v1350 : BitVec 32 := Scalar.remsi v1349 c16_i32_1742
  let c1_i32_1749 : BitVec 32 := 1#32
  let v1352 : BitVec 32 := Scalar.muli v1350 c1_i32_1749
  let v1353 : BitVec 32 := Scalar.addi c0_i32_1750 v1352
  v1353.toNat
def k0_dev71 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1752 : BitVec 32 := 11#32
  let v1360 : BitVec 32 := Scalar.addi v2 c11_i32_1752
  let c16_i32_1753 : BitVec 32 := 16#32
  let v1361 : BitVec 32 := Scalar.remsi v1360 c16_i32_1753
  let c1_i32_1760 : BitVec 32 := 1#32
  let v1363 : BitVec 32 := Scalar.muli v1361 c1_i32_1760
  let v1364 : BitVec 32 := Scalar.addi c0_i32_1761 v1363
  v1364.toNat
def k0_dev72 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1763 : BitVec 32 := 12#32
  let v1371 : BitVec 32 := Scalar.addi v2 c12_i32_1763
  let c16_i32_1764 : BitVec 32 := 16#32
  let v1372 : BitVec 32 := Scalar.remsi v1371 c16_i32_1764
  let c1_i32_1771 : BitVec 32 := 1#32
  let v1374 : BitVec 32 := Scalar.muli v1372 c1_i32_1771
  let v1375 : BitVec 32 := Scalar.addi c0_i32_1772 v1374
  v1375.toNat
def k0_dev73 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1774 : BitVec 32 := 13#32
  let v1382 : BitVec 32 := Scalar.addi v2 c13_i32_1774
  let c16_i32_1775 : BitVec 32 := 16#32
  let v1383 : BitVec 32 := Scalar.remsi v1382 c16_i32_1775
  let c1_i32_1782 : BitVec 32 := 1#32
  let v1385 : BitVec 32 := Scalar.muli v1383 c1_i32_1782
  let v1386 : BitVec 32 := Scalar.addi c0_i32_1783 v1385
  v1386.toNat
def k0_dev74 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1785 : BitVec 32 := 14#32
  let v1393 : BitVec 32 := Scalar.addi v2 c14_i32_1785
  let c16_i32_1786 : BitVec 32 := 16#32
  let v1394 : BitVec 32 := Scalar.remsi v1393 c16_i32_1786
  let c1_i32_1793 : BitVec 32 := 1#32
  let v1396 : BitVec 32 := Scalar.muli v1394 c1_i32_1793
  let v1397 : BitVec 32 := Scalar.addi c0_i32_1794 v1396
  v1397.toNat
def k0_dev75 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1796 : BitVec 32 := 15#32
  let v1404 : BitVec 32 := Scalar.addi v2 c15_i32_1796
  let c16_i32_1797 : BitVec 32 := 16#32
  let v1405 : BitVec 32 := Scalar.remsi v1404 c16_i32_1797
  let c1_i32_1804 : BitVec 32 := 1#32
  let v1407 : BitVec 32 := Scalar.muli v1405 c1_i32_1804
  let v1408 : BitVec 32 := Scalar.addi c0_i32_1805 v1407
  v1408.toNat
def k0_dev76 (d0 : Dev nD) : Nat :=
  let c0_i32_2229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2219 : BitVec 32 := 1#32
  let v1676 : BitVec 32 := Scalar.addi v2 c1_i32_2219
  let c16_i32_2220 : BitVec 32 := 16#32
  let v1677 : BitVec 32 := Scalar.remsi v1676 c16_i32_2220
  let c1_i32_2228 : BitVec 32 := 1#32
  let v1679 : BitVec 32 := Scalar.muli v1677 c1_i32_2228
  let v1680 : BitVec 32 := Scalar.addi c0_i32_2229 v1679
  v1680.toNat
def k0_dev77 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2233 : BitVec 32 := 2#32
  let v1688 : BitVec 32 := Scalar.addi v2 c2_i32_2233
  let c16_i32_2234 : BitVec 32 := 16#32
  let v1689 : BitVec 32 := Scalar.remsi v1688 c16_i32_2234
  let c1_i32_2242 : BitVec 32 := 1#32
  let v1691 : BitVec 32 := Scalar.muli v1689 c1_i32_2242
  let v1692 : BitVec 32 := Scalar.addi c0_i32_2243 v1691
  v1692.toNat
def k0_dev78 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2247 : BitVec 32 := 3#32
  let v1700 : BitVec 32 := Scalar.addi v2 c3_i32_2247
  let c16_i32_2248 : BitVec 32 := 16#32
  let v1701 : BitVec 32 := Scalar.remsi v1700 c16_i32_2248
  let c1_i32_2256 : BitVec 32 := 1#32
  let v1703 : BitVec 32 := Scalar.muli v1701 c1_i32_2256
  let v1704 : BitVec 32 := Scalar.addi c0_i32_2257 v1703
  v1704.toNat
def k0_dev79 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2261 : BitVec 32 := 4#32
  let v1712 : BitVec 32 := Scalar.addi v2 c4_i32_2261
  let c16_i32_2262 : BitVec 32 := 16#32
  let v1713 : BitVec 32 := Scalar.remsi v1712 c16_i32_2262
  let c1_i32_2270 : BitVec 32 := 1#32
  let v1715 : BitVec 32 := Scalar.muli v1713 c1_i32_2270
  let v1716 : BitVec 32 := Scalar.addi c0_i32_2271 v1715
  v1716.toNat
def k0_dev80 (d0 : Dev nD) : Nat :=
  let c0_i32_2285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2275 : BitVec 32 := 5#32
  let v1724 : BitVec 32 := Scalar.addi v2 c5_i32_2275
  let c16_i32_2276 : BitVec 32 := 16#32
  let v1725 : BitVec 32 := Scalar.remsi v1724 c16_i32_2276
  let c1_i32_2284 : BitVec 32 := 1#32
  let v1727 : BitVec 32 := Scalar.muli v1725 c1_i32_2284
  let v1728 : BitVec 32 := Scalar.addi c0_i32_2285 v1727
  v1728.toNat
def k0_dev81 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2289 : BitVec 32 := 6#32
  let v1736 : BitVec 32 := Scalar.addi v2 c6_i32_2289
  let c16_i32_2290 : BitVec 32 := 16#32
  let v1737 : BitVec 32 := Scalar.remsi v1736 c16_i32_2290
  let c1_i32_2298 : BitVec 32 := 1#32
  let v1739 : BitVec 32 := Scalar.muli v1737 c1_i32_2298
  let v1740 : BitVec 32 := Scalar.addi c0_i32_2299 v1739
  v1740.toNat
def k0_dev82 (d0 : Dev nD) : Nat :=
  let c0_i32_2313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2303 : BitVec 32 := 7#32
  let v1748 : BitVec 32 := Scalar.addi v2 c7_i32_2303
  let c16_i32_2304 : BitVec 32 := 16#32
  let v1749 : BitVec 32 := Scalar.remsi v1748 c16_i32_2304
  let c1_i32_2312 : BitVec 32 := 1#32
  let v1751 : BitVec 32 := Scalar.muli v1749 c1_i32_2312
  let v1752 : BitVec 32 := Scalar.addi c0_i32_2313 v1751
  v1752.toNat
def k0_dev83 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2317 : BitVec 32 := 8#32
  let v1760 : BitVec 32 := Scalar.addi v2 c8_i32_2317
  let c16_i32_2318 : BitVec 32 := 16#32
  let v1761 : BitVec 32 := Scalar.remsi v1760 c16_i32_2318
  let c1_i32_2326 : BitVec 32 := 1#32
  let v1763 : BitVec 32 := Scalar.muli v1761 c1_i32_2326
  let v1764 : BitVec 32 := Scalar.addi c0_i32_2327 v1763
  v1764.toNat
def k0_dev84 (d0 : Dev nD) : Nat :=
  let c0_i32_2341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2331 : BitVec 32 := 9#32
  let v1772 : BitVec 32 := Scalar.addi v2 c9_i32_2331
  let c16_i32_2332 : BitVec 32 := 16#32
  let v1773 : BitVec 32 := Scalar.remsi v1772 c16_i32_2332
  let c1_i32_2340 : BitVec 32 := 1#32
  let v1775 : BitVec 32 := Scalar.muli v1773 c1_i32_2340
  let v1776 : BitVec 32 := Scalar.addi c0_i32_2341 v1775
  v1776.toNat
def k0_dev85 (d0 : Dev nD) : Nat :=
  let c0_i32_2355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2345 : BitVec 32 := 10#32
  let v1784 : BitVec 32 := Scalar.addi v2 c10_i32_2345
  let c16_i32_2346 : BitVec 32 := 16#32
  let v1785 : BitVec 32 := Scalar.remsi v1784 c16_i32_2346
  let c1_i32_2354 : BitVec 32 := 1#32
  let v1787 : BitVec 32 := Scalar.muli v1785 c1_i32_2354
  let v1788 : BitVec 32 := Scalar.addi c0_i32_2355 v1787
  v1788.toNat
def k0_dev86 (d0 : Dev nD) : Nat :=
  let c0_i32_2369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2359 : BitVec 32 := 11#32
  let v1796 : BitVec 32 := Scalar.addi v2 c11_i32_2359
  let c16_i32_2360 : BitVec 32 := 16#32
  let v1797 : BitVec 32 := Scalar.remsi v1796 c16_i32_2360
  let c1_i32_2368 : BitVec 32 := 1#32
  let v1799 : BitVec 32 := Scalar.muli v1797 c1_i32_2368
  let v1800 : BitVec 32 := Scalar.addi c0_i32_2369 v1799
  v1800.toNat
def k0_dev87 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2373 : BitVec 32 := 12#32
  let v1808 : BitVec 32 := Scalar.addi v2 c12_i32_2373
  let c16_i32_2374 : BitVec 32 := 16#32
  let v1809 : BitVec 32 := Scalar.remsi v1808 c16_i32_2374
  let c1_i32_2382 : BitVec 32 := 1#32
  let v1811 : BitVec 32 := Scalar.muli v1809 c1_i32_2382
  let v1812 : BitVec 32 := Scalar.addi c0_i32_2383 v1811
  v1812.toNat
def k0_dev88 (d0 : Dev nD) : Nat :=
  let c0_i32_2397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2387 : BitVec 32 := 13#32
  let v1820 : BitVec 32 := Scalar.addi v2 c13_i32_2387
  let c16_i32_2388 : BitVec 32 := 16#32
  let v1821 : BitVec 32 := Scalar.remsi v1820 c16_i32_2388
  let c1_i32_2396 : BitVec 32 := 1#32
  let v1823 : BitVec 32 := Scalar.muli v1821 c1_i32_2396
  let v1824 : BitVec 32 := Scalar.addi c0_i32_2397 v1823
  v1824.toNat
def k0_dev89 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2401 : BitVec 32 := 14#32
  let v1832 : BitVec 32 := Scalar.addi v2 c14_i32_2401
  let c16_i32_2402 : BitVec 32 := 16#32
  let v1833 : BitVec 32 := Scalar.remsi v1832 c16_i32_2402
  let c1_i32_2410 : BitVec 32 := 1#32
  let v1835 : BitVec 32 := Scalar.muli v1833 c1_i32_2410
  let v1836 : BitVec 32 := Scalar.addi c0_i32_2411 v1835
  v1836.toNat
def k0_dev90 (d0 : Dev nD) : Nat :=
  let c0_i32_2425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2415 : BitVec 32 := 15#32
  let v1844 : BitVec 32 := Scalar.addi v2 c15_i32_2415
  let c16_i32_2416 : BitVec 32 := 16#32
  let v1845 : BitVec 32 := Scalar.remsi v1844 c16_i32_2416
  let c1_i32_2424 : BitVec 32 := 1#32
  let v1847 : BitVec 32 := Scalar.muli v1845 c1_i32_2424
  let v1848 : BitVec 32 := Scalar.addi c0_i32_2425 v1847
  v1848.toNat
def k0_off7 (d0 : Dev nD) : Fin 3 → Nat :=
  let c2_2704 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2703 : BitVec 32 := 8#32
  let v2027 : BitVec 32 := Scalar.muli v2 c8_i32_2703
  let v2028 : Index := Scalar.indexCast v2027
  let c0_2705 : Index := 0#32
  ![2, v2028.toNat, 0]
def k0_off8 (d0 : Dev nD) : Fin 3 → Nat :=
  let c2_i32_2709 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2708 : BitVec 32 := 8#32
  let v2034 : BitVec 32 := Scalar.muli v2 c8_i32_2708
  let c0_i32_2716 : BitVec 32 := 0#32
  ![2, v2034.toNat, 0]
def k0_dev91 (d0 : Dev nD) : Nat :=
  let c0_i32_2715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2706 : BitVec 32 := 1#32
  let v2032 : BitVec 32 := Scalar.addi v2 c1_i32_2706
  let c16_i32_2707 : BitVec 32 := 16#32
  let v2033 : BitVec 32 := Scalar.remsi v2032 c16_i32_2707
  let c1_i32_2714 : BitVec 32 := 1#32
  let v2035 : BitVec 32 := Scalar.muli v2033 c1_i32_2714
  let v2036 : BitVec 32 := Scalar.addi c0_i32_2715 v2035
  v2036.toNat
def k0_dev92 (d0 : Dev nD) : Nat :=
  let c0_i32_2726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2717 : BitVec 32 := 2#32
  let v2043 : BitVec 32 := Scalar.addi v2 c2_i32_2717
  let c16_i32_2718 : BitVec 32 := 16#32
  let v2044 : BitVec 32 := Scalar.remsi v2043 c16_i32_2718
  let c1_i32_2725 : BitVec 32 := 1#32
  let v2046 : BitVec 32 := Scalar.muli v2044 c1_i32_2725
  let v2047 : BitVec 32 := Scalar.addi c0_i32_2726 v2046
  v2047.toNat
def k0_dev93 (d0 : Dev nD) : Nat :=
  let c0_i32_2737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2728 : BitVec 32 := 3#32
  let v2054 : BitVec 32 := Scalar.addi v2 c3_i32_2728
  let c16_i32_2729 : BitVec 32 := 16#32
  let v2055 : BitVec 32 := Scalar.remsi v2054 c16_i32_2729
  let c1_i32_2736 : BitVec 32 := 1#32
  let v2057 : BitVec 32 := Scalar.muli v2055 c1_i32_2736
  let v2058 : BitVec 32 := Scalar.addi c0_i32_2737 v2057
  v2058.toNat
def k0_dev94 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2739 : BitVec 32 := 4#32
  let v2065 : BitVec 32 := Scalar.addi v2 c4_i32_2739
  let c16_i32_2740 : BitVec 32 := 16#32
  let v2066 : BitVec 32 := Scalar.remsi v2065 c16_i32_2740
  let c1_i32_2747 : BitVec 32 := 1#32
  let v2068 : BitVec 32 := Scalar.muli v2066 c1_i32_2747
  let v2069 : BitVec 32 := Scalar.addi c0_i32_2748 v2068
  v2069.toNat
def k0_dev95 (d0 : Dev nD) : Nat :=
  let c0_i32_2759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2750 : BitVec 32 := 5#32
  let v2076 : BitVec 32 := Scalar.addi v2 c5_i32_2750
  let c16_i32_2751 : BitVec 32 := 16#32
  let v2077 : BitVec 32 := Scalar.remsi v2076 c16_i32_2751
  let c1_i32_2758 : BitVec 32 := 1#32
  let v2079 : BitVec 32 := Scalar.muli v2077 c1_i32_2758
  let v2080 : BitVec 32 := Scalar.addi c0_i32_2759 v2079
  v2080.toNat
def k0_dev96 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2761 : BitVec 32 := 6#32
  let v2087 : BitVec 32 := Scalar.addi v2 c6_i32_2761
  let c16_i32_2762 : BitVec 32 := 16#32
  let v2088 : BitVec 32 := Scalar.remsi v2087 c16_i32_2762
  let c1_i32_2769 : BitVec 32 := 1#32
  let v2090 : BitVec 32 := Scalar.muli v2088 c1_i32_2769
  let v2091 : BitVec 32 := Scalar.addi c0_i32_2770 v2090
  v2091.toNat
def k0_dev97 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2772 : BitVec 32 := 7#32
  let v2098 : BitVec 32 := Scalar.addi v2 c7_i32_2772
  let c16_i32_2773 : BitVec 32 := 16#32
  let v2099 : BitVec 32 := Scalar.remsi v2098 c16_i32_2773
  let c1_i32_2780 : BitVec 32 := 1#32
  let v2101 : BitVec 32 := Scalar.muli v2099 c1_i32_2780
  let v2102 : BitVec 32 := Scalar.addi c0_i32_2781 v2101
  v2102.toNat
def k0_dev98 (d0 : Dev nD) : Nat :=
  let c0_i32_2792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2783 : BitVec 32 := 8#32
  let v2109 : BitVec 32 := Scalar.addi v2 c8_i32_2783
  let c16_i32_2784 : BitVec 32 := 16#32
  let v2110 : BitVec 32 := Scalar.remsi v2109 c16_i32_2784
  let c1_i32_2791 : BitVec 32 := 1#32
  let v2112 : BitVec 32 := Scalar.muli v2110 c1_i32_2791
  let v2113 : BitVec 32 := Scalar.addi c0_i32_2792 v2112
  v2113.toNat
def k0_dev99 (d0 : Dev nD) : Nat :=
  let c0_i32_2803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2794 : BitVec 32 := 9#32
  let v2120 : BitVec 32 := Scalar.addi v2 c9_i32_2794
  let c16_i32_2795 : BitVec 32 := 16#32
  let v2121 : BitVec 32 := Scalar.remsi v2120 c16_i32_2795
  let c1_i32_2802 : BitVec 32 := 1#32
  let v2123 : BitVec 32 := Scalar.muli v2121 c1_i32_2802
  let v2124 : BitVec 32 := Scalar.addi c0_i32_2803 v2123
  v2124.toNat
def k0_dev100 (d0 : Dev nD) : Nat :=
  let c0_i32_2814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2805 : BitVec 32 := 10#32
  let v2131 : BitVec 32 := Scalar.addi v2 c10_i32_2805
  let c16_i32_2806 : BitVec 32 := 16#32
  let v2132 : BitVec 32 := Scalar.remsi v2131 c16_i32_2806
  let c1_i32_2813 : BitVec 32 := 1#32
  let v2134 : BitVec 32 := Scalar.muli v2132 c1_i32_2813
  let v2135 : BitVec 32 := Scalar.addi c0_i32_2814 v2134
  v2135.toNat
def k0_dev101 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2816 : BitVec 32 := 11#32
  let v2142 : BitVec 32 := Scalar.addi v2 c11_i32_2816
  let c16_i32_2817 : BitVec 32 := 16#32
  let v2143 : BitVec 32 := Scalar.remsi v2142 c16_i32_2817
  let c1_i32_2824 : BitVec 32 := 1#32
  let v2145 : BitVec 32 := Scalar.muli v2143 c1_i32_2824
  let v2146 : BitVec 32 := Scalar.addi c0_i32_2825 v2145
  v2146.toNat
def k0_dev102 (d0 : Dev nD) : Nat :=
  let c0_i32_2836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2827 : BitVec 32 := 12#32
  let v2153 : BitVec 32 := Scalar.addi v2 c12_i32_2827
  let c16_i32_2828 : BitVec 32 := 16#32
  let v2154 : BitVec 32 := Scalar.remsi v2153 c16_i32_2828
  let c1_i32_2835 : BitVec 32 := 1#32
  let v2156 : BitVec 32 := Scalar.muli v2154 c1_i32_2835
  let v2157 : BitVec 32 := Scalar.addi c0_i32_2836 v2156
  v2157.toNat
def k0_dev103 (d0 : Dev nD) : Nat :=
  let c0_i32_2847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2838 : BitVec 32 := 13#32
  let v2164 : BitVec 32 := Scalar.addi v2 c13_i32_2838
  let c16_i32_2839 : BitVec 32 := 16#32
  let v2165 : BitVec 32 := Scalar.remsi v2164 c16_i32_2839
  let c1_i32_2846 : BitVec 32 := 1#32
  let v2167 : BitVec 32 := Scalar.muli v2165 c1_i32_2846
  let v2168 : BitVec 32 := Scalar.addi c0_i32_2847 v2167
  v2168.toNat
def k0_dev104 (d0 : Dev nD) : Nat :=
  let c0_i32_2858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2849 : BitVec 32 := 14#32
  let v2175 : BitVec 32 := Scalar.addi v2 c14_i32_2849
  let c16_i32_2850 : BitVec 32 := 16#32
  let v2176 : BitVec 32 := Scalar.remsi v2175 c16_i32_2850
  let c1_i32_2857 : BitVec 32 := 1#32
  let v2178 : BitVec 32 := Scalar.muli v2176 c1_i32_2857
  let v2179 : BitVec 32 := Scalar.addi c0_i32_2858 v2178
  v2179.toNat
def k0_dev105 (d0 : Dev nD) : Nat :=
  let c0_i32_2869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2860 : BitVec 32 := 15#32
  let v2186 : BitVec 32 := Scalar.addi v2 c15_i32_2860
  let c16_i32_2861 : BitVec 32 := 16#32
  let v2187 : BitVec 32 := Scalar.remsi v2186 c16_i32_2861
  let c1_i32_2868 : BitVec 32 := 1#32
  let v2189 : BitVec 32 := Scalar.muli v2187 c1_i32_2868
  let v2190 : BitVec 32 := Scalar.addi c0_i32_2869 v2189
  v2190.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x128 : Shape := ⟨2, ![128, 128]⟩
abbrev S128x4096 : Shape := ⟨2, ![128, 4096]⟩
abbrev S4096x128 : Shape := ⟨2, ![4096, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x4096, .f32⟩
  | .hbm, ⟨2, _⟩ => ⟨S128x4096, .f32⟩
  | .hbm, ⟨3, _⟩ => ⟨S128x4096, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x128, .f32⟩
  | .hbm, ⟨12, _⟩ => ⟨S128x4096, .f32⟩
  | .hbm, ⟨13, _⟩ => ⟨S_, .f32⟩
  | .hbm, ⟨14, _⟩ => ⟨S128x4096, .f32⟩
  | .hbm, ⟨15, _⟩ => ⟨S128x4096, .f32⟩
  | .hbm, ⟨16, _⟩ => ⟨S128x128, .f32⟩
  | .hbm, ⟨17, _⟩ => ⟨S128x4096, .f32⟩
  | .hbm, ⟨18, _⟩ => ⟨S_, .f32⟩
  | .hbm, ⟨19, _⟩ => ⟨S128x4096, .f32⟩
  | .hbm, ⟨20, _⟩ => ⟨S128x4096, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
  The kernel's body as a program with loops.

  The printed body lists every statement of the unrolled kernel, some eight hundred of them.  Here the
  same program is written the way the kernel's author wrote it, with loops over the fifteen peers and
  over the three layers, and `body_eq` says that the two are one program.
-/
module

public import proofs.«01_k».proof.Proof.Gen.KernelIdeal.Skeleton

@[expose] public section

noncomputable section

namespace Cert.KernelIdeal.Mlp

open Idealize.ShloMosaic Idealize.ShloMosaic.TcCoe
open Idealize.SL Idealize.SL.Sem Cert.KernelIdeal Cert.KernelIdeal.Gen

variable {F : FTy → Type} [FloatOps F]

/-- The programs a TensorCore runs here. -/
abbrev TProg (F : FTy → Type) [FloatOps F] := Prog (TpuEff nD τ sig (Elt F) Λ₀ .tc)

/-! ## Loops -/

/-- Run `f` at each member of a list, in order. -/
def forEach {α : Type} : List α → (α → TProg F PUnit) → TProg F PUnit
  | [], _ => pure ⟨⟩
  | a :: rest, f => f a >>= fun _ => forEach rest f

/-- Run `f` at each member of a list, in order, passing a value along. -/
def foldEach {α β : Type} : List α → β → (β → α → TProg F β) → TProg F β
  | [], b, _ => pure b
  | a :: rest, b, f => f b a >>= fun b' => foldEach rest b' f

/-- The fifteen peers, by their distance around the mesh less one. -/
def peers : List (Fin 15) :=
  [⟨0, by decide⟩, ⟨1, by decide⟩, ⟨2, by decide⟩, ⟨3, by decide⟩, ⟨4, by decide⟩, ⟨5, by decide⟩, ⟨6, by decide⟩,
   ⟨7, by decide⟩, ⟨8, by decide⟩, ⟨9, by decide⟩, ⟨10, by decide⟩, ⟨11, by decide⟩, ⟨12, by decide⟩, ⟨13, by decide⟩,
   ⟨14, by decide⟩]

/-! ## Addresses -/

/-- The logical device id, as the kernel computes it from the machine's. -/
def myWord (d : Dev nD) : BitVec 32 := Scalar.remsi (Scalar.divsi (Dev.word d) 1#32) 16#32

/-- The peer at distance `r + 1`, as the kernel computes it. -/
def peerNat (d : Dev nD) (r : Fin 15) : Nat :=
  (Scalar.addi 0#32 (Scalar.muli (Scalar.remsi (Scalar.addi (myWord d) (BitVec.ofNat 32 (1 + r.val))) 16#32) 1#32)).toNat

/-- The printed remainder names a device, -/
theorem peerNat_lt : ∀ (d : Dev nD) (r : Fin 15), peerNat d r < nD := by decide +kernel

/-- The peer at distance `r + 1`. -/
def peer (d : Dev nD) (r : Fin 15) : Dev nD := ⟨peerNat d r, peerNat_lt d r⟩

/-- and that device lies `r + 1` further round the mesh. -/
theorem peer_eq : ∀ (d : Dev nD) (r : Fin 15), peer d r = d + (⟨1 + r.val, by omega⟩ : Fin 16) := by decide +kernel

/-- Where the device's own rows begin in layer `l` of the gathered activations. -/
def ownOff (l : Fin 3) (d : Dev nD) : Fin 3 → Nat := ![l.val, (Scalar.muli (myWord d) 8#32).toNat, 0]

theorem ownOff_inb : ∀ (l : Fin 3) (d : Dev nD), ∀ a, (ownOff l d) a + S1x8x128.size a ≤ S3x128x128.size a := by
  decide +kernel

/-- The printed place of the own rows, in closed form. -/
theorem ownOff_eq : ∀ (l : Fin 3) (d : Dev nD), ownOff l d = ![l.val, 8 * d.val, 0] := by decide +kernel

theorem slot_inb : ∀ (l : Fin 3) (r : Fin 15) (a : Fin 2), (![l.val, 1 + r.val] : Fin 2 → Nat) a + S1x1.size a ≤ S3x16.size a := by
  decide +kernel

theorem land_inb : ∀ (l : Fin 3) (r : Fin 15) (a : Fin 4), (![l.val, 1 + r.val, 0, 0] : Fin 4 → Nat) a + S1x1x8x128.size a ≤ S3x16x8x128.size a := by
  decide +kernel

theorem win_inb : ∀ (l : Fin 3) (a : Fin 3), (![l.val, 0, 0] : Fin 3 → Nat) a + S1x128x256.size a ≤ S3x128x256.size a := by
  decide +kernel

theorem wout_inb : ∀ (l : Fin 3) (a : Fin 3), (![l.val, 0, 0] : Fin 3 → Nat) a + S1x256x128.size a ≤ S3x256x128.size a := by
  decide +kernel

theorem all_inb : ∀ (l : Fin 3) (a : Fin 3), (![l.val, 0, 0] : Fin 3 → Nat) a + S1x128x128.size a ≤ S3x128x128.size a := by
  decide +kernel

theorem load_inb : ∀ (i : Fin 7) (a : Fin 1), (![i.val] : Fin 1 → Nat) a + S1.size a ≤ S7.size a := by decide +kernel

/-- The semaphore of peer `r` in layer `l`, of a family of semaphores. -/
def slotSem (s : DmaSems sig S3x16) (l : Fin 3) (r : Fin 15) : DmaSem sig :=
  ((s.slice (Rect.unit (s := S3x16) ![l.val, 1 + r.val] S1x1.size (slot_inb l r))).squeeze S_ squeezes_S1x1_S_).sem

/-- The semaphore of load `i`. -/
def loadSem (s : DmaSems sig S7) (i : Fin 7) : DmaSem sig :=
  ((s.slice (Rect.unit (s := S7) ![i.val] S1.size (load_inb i))).squeeze S_ squeezes_S1_S_).sem

/-- The landing slot of the partial sums that come in layer `l` from the peer at distance `r + 1`. -/
def landing (rs : Memref sig .tc .vmem S3x16x8x128 .f32) (l : Fin 3) (r : Fin 15) : Memref sig .tc .vmem S8x128 .f32 :=
  (rs.slice (Rect.unit (s := S3x16x8x128) ![l.val, 1 + r.val, 0, 0] S1x1x8x128.size (land_inb l r)) (fun _ => rfl)).squeeze
    S8x128 squeezes_S1x1x8x128_S8x128

/-- The rows of the partial product that go to the peer at distance `r + 1`. -/
def rowsFor (mine : Memref sig .tc .vmem S128x128 .f32) (d : Dev nD) (r : Fin 15) : Memref sig .tc .vmem S8x128 .f32 :=
  mine.slice (Rect.unit (s := S128x128) (k0_off1 d (BitVec.ofNat 32 (1 + r.val))) S8x128.size (k0_off1_inb d r)) (fun _ => rfl)

/-- The device's own rows in layer `l` of the gathered activations. -/
def ownRows (ag : Memref sig .tc .vmem S3x128x128 .f32) (l : Fin 3) (d : Dev nD) : Memref sig .tc .vmem S8x128 .f32 :=
  (ag.slice (Rect.unit (s := S3x128x128) (ownOff l d) S1x8x128.size (ownOff_inb l d)) (fun _ => rfl)).squeeze
    S8x128 squeezes_S1x8x128_S8x128

/-- Layer `l` of the first weights' buffer. -/
def winLayer (w : Memref sig .tc .vmem S3x128x256 .f32) (l : Fin 3) : Memref sig .tc .vmem S128x256 .f32 :=
  (w.slice (Rect.unit (s := S3x128x256) ![l.val, 0, 0] S1x128x256.size (win_inb l)) (fun _ => rfl)).squeeze
    S128x256 squeezes_S1x128x256_S128x256

/-- Layer `l` of the second weights' buffer. -/
def woutLayer (w : Memref sig .tc .vmem S3x256x128 .f32) (l : Fin 3) : Memref sig .tc .vmem S256x128 .f32 :=
  (w.slice (Rect.unit (s := S3x256x128) ![l.val, 0, 0] S1x256x128.size (wout_inb l)) (fun _ => rfl)).squeeze
    S256x128 squeezes_S1x256x128_S256x128

/-! ## What is computed -/

/-- One layer's partial product: `relu (x · win) · wout`, on one device's block of the weights. -/
def partialOf (x : Vec F S128x128 .f32) (wi : Vec F S1x128x256 .f32) (wo : Vec F S1x256x128 .f32) : FVec F S128x128 .f32 :=
  k0_pay15 x wi wo

/-- A peer's contribution added to the running sum. -/
def accOf (s : FVec F S8x128 .f32) (v : Vec F S1x1x8x128 .f32) : FVec F S8x128 .f32 := k0_pay4 s v

/-! ## The program -/

/-- The buffers and semaphores the body is called with. -/
structure Bufs where
  x : Memref sig .tc .hbm S128x128 .f32
  win : Fin 3 → Memref sig .tc .hbm S128x256 .f32
  wout : Fin 3 → Memref sig .tc .hbm S256x128 .f32
  out : Memref sig .tc .vmem S128x128 .f32
  xv : Memref sig .tc .vmem S128x128 .f32
  wins : Memref sig .tc .vmem S3x128x256 .f32
  wouts : Memref sig .tc .vmem S3x256x128 .f32
  mine : Memref sig .tc .vmem S128x128 .f32
  red : Memref sig .tc .vmem S8x128 .f32
  rs : Memref sig .tc .vmem S3x16x8x128 .f32
  ag : Memref sig .tc .vmem S3x128x128 .f32
  loads : DmaSems sig S7
  rsSend : DmaSems sig S3x16
  rsRecv : DmaSems sig S3x16
  agSend : DmaSems sig S3x16
  agRecv : DmaSems sig S3x16

/-- The barrier semaphore. -/
def barSem : Sem sig := (SemArray.scalar (sig.barrier 0 rfl) : Sems sig S_).sem

/-- Tell the peer at distance `r + 1` that this device has entered the kernel. -/
def greet (d : Dev nD) (r : Fin 15) : TProg F PUnit := semSignalWord (peer d r) barSem 1#32

/-- The load semaphores of the weights: one, two, then three, four, then five, six. -/
def winIx (l : Fin 3) : Fin 7 := ⟨1 + 2 * l.val, by omega⟩
def woutIx (l : Fin 3) : Fin 7 := ⟨2 + 2 * l.val, by omega⟩

/-- Start the input's load; -/
def loadX (B : Bufs) : TProg F PUnit :=
  Prog.lift (.enqueueDma B.x (.here B.xv) (.dma (loadSem B.loads ⟨0, by decide⟩)) (View.wordExact_bits rfl) (View.wordExact_bits rfl)
    ⟨Or.inl rfl, trivial⟩)

/-- a layer's first weights'; -/
def loadWin (B : Bufs) (l : Fin 3) : TProg F PUnit :=
  Prog.lift (.enqueueDma (B.win l) (.here (winLayer B.wins l)) (.dma (loadSem B.loads (winIx l))) (View.wordExact_bits rfl)
    (View.wordExact_bits rfl) ⟨Or.inl rfl, trivial⟩)

/-- and a layer's second weights'. -/
def loadWout (B : Bufs) (l : Fin 3) : TProg F PUnit :=
  Prog.lift (.enqueueDma (B.wout l) (.here (woutLayer B.wouts l)) (.dma (loadSem B.loads (woutIx l))) (View.wordExact_bits rfl)
    (View.wordExact_bits rfl) ⟨Or.inl rfl, trivial⟩)

/-- Start the copies of the input and of all the weights. -/
def startLoads (B : Bufs) : TProg F PUnit := do
  loadX B
  forEach [⟨0, by decide⟩, ⟨1, by decide⟩, ⟨2, by decide⟩] fun l => do
    loadWin B l
    loadWout B l

/-- Send the peer at distance `r + 1` its rows of this device's partial product. -/
def scatter (B : Bufs) (d : Dev nD) (l : Fin 3) (r : Fin 15) : TProg F PUnit :=
  Prog.lift (.enqueueDma (rowsFor B.mine d r)
    (.remote (Dev.tc (peer d r)) (landing B.rs l r) (.dma (slotSem B.rsSend l r))) (.dma (slotSem B.rsRecv l r))
    (View.wordExact_bits rfl) (View.wordExact_bits rfl) ⟨⟨rfl, Or.inl rfl⟩, trivial⟩)

/-- Wait for the rows the peer at distance `r + 1` before this device sends, and add them. -/
def accumulate (B : Bufs) (l : Fin 3) (s : FVec F S8x128 .f32) (r : Fin 15) : TProg F (FVec F S8x128 .f32) := do
  Prog.lift (.waitDma2 (slotSem B.rsRecv l r) (landing B.rs l r) (landing B.rs l r) (View.wordExact_bits rfl) (View.wordExact_bits rfl))
  let v : Vec F S1x1x8x128 .f32 ← Prog.lift (.load B.rs (Rect.unit (s := S3x16x8x128) ![l.val, 1 + r.val, 0, 0] S1x1x8x128.size
    (land_inb l r)).toLoadRect (View.loadsAt_vmem h_S1x1x8x128))
  pure (accOf s v)

/-- Keep the reduced rows, once to send from and once among the gathered ones. -/
def keep (B : Bufs) (d : Dev nD) (l : Fin 3) (s : FVec F S8x128 .f32) : TProg F PUnit := do
  let _v : Vec F S8x128 .f32 ← Prog.lift (.load B.red (Rect.unit (s := S8x128) ![0, 0] S8x128.size inb_S8x128_S8x128_0_0).toLoadRect
    (View.loadsAt_vmem h_S8x128))
  Prog.lift (.store B.red (Rect.unit (s := S8x128) ![0, 0] S8x128.size inb_S8x128_S8x128_0_0)
    (shapeCast S8x128 s shapeCasts_S8x128_S8x128) Finset.univ (View.stores_vmem_bits_univ h_S8x128 rfl) (.inl rfl))
  let _w : Vec F S1x8x128 .f32 ← Prog.lift (.load B.ag (Rect.unit (s := S3x128x128) (ownOff l d) S1x8x128.size
    (ownOff_inb l d)).toLoadRect (View.loadsAt_vmem h_S1x8x128))
  Prog.lift (.store B.ag (Rect.unit (s := S3x128x128) (ownOff l d) S1x8x128.size (ownOff_inb l d))
    (shapeCast S1x8x128 s shapeCasts_S8x128_S1x8x128) Finset.univ (View.stores_vmem_bits_univ h_S1x8x128 rfl) (.inl rfl))

/-- Send the reduced rows to the peer at distance `r + 1`. -/
def share (B : Bufs) (d : Dev nD) (l : Fin 3) (r : Fin 15) : TProg F PUnit :=
  Prog.lift (.enqueueDma B.red
    (.remote (Dev.tc (peer d r)) (ownRows B.ag l d) (.dma (slotSem B.agSend l r))) (.dma (slotSem B.agRecv l r))
    (View.wordExact_bits rfl) (View.wordExact_bits rfl) ⟨⟨rfl, Or.inl rfl⟩, trivial⟩)

/-- Wait for the reduced rows of the peer at distance `r + 1` before this device. -/
def receive (B : Bufs) (d : Dev nD) (l : Fin 3) (r : Fin 15) : TProg F PUnit :=
  Prog.lift (.waitDma2 (slotSem B.agRecv l r) B.red (ownRows B.ag l d) (View.wordExact_bits rfl) (View.wordExact_bits rfl))

/-- Wait until the rows sent by `scatter` have been read. -/
def scattered (B : Bufs) (d : Dev nD) (l : Fin 3) (r : Fin 15) : TProg F PUnit :=
  Prog.lift (.waitDma2 (slotSem B.rsSend l r) (landing B.rs l r) (rowsFor B.mine d r) (View.wordExact_bits rfl) (View.wordExact_bits rfl))

/-- Wait until the rows sent by `share` have been read. -/
def shared (B : Bufs) (d : Dev nD) (l : Fin 3) (r : Fin 15) : TProg F PUnit :=
  Prog.lift (.waitDma2 (slotSem B.agSend l r) (ownRows B.ag l d) B.red (View.wordExact_bits rfl) (View.wordExact_bits rfl))

/-- The wait for every peer's greeting, before the first remote copy. -/
def barrier (l : Fin 3) : TProg F PUnit :=
  match l with
  | ⟨0, _⟩ => semWaitWord barSem 15#32
  | ⟨_ + 1, _⟩ => pure ⟨⟩

/-- The first half of a layer: the partial product, on this device's weights, of the whole activations. -/
def multiply (B : Bufs) (l : Fin 3) (x : FVec F S128x128 .f32) : TProg F PUnit := do
  Prog.lift (.waitDma2 (loadSem B.loads (winIx l)) (B.win l) (winLayer B.wins l) (View.wordExact_bits rfl) (View.wordExact_bits rfl))
  let wi : Vec F S1x128x256 .f32 ← Prog.lift (.load B.wins (Rect.unit (s := S3x128x256) ![l.val, 0, 0] S1x128x256.size
    (win_inb l)).toLoadRect (View.loadsAt_vmem h_S1x128x256))
  Prog.lift (.waitDma2 (loadSem B.loads (woutIx l)) (B.wout l) (woutLayer B.wouts l) (View.wordExact_bits rfl) (View.wordExact_bits rfl))
  let wo : Vec F S1x256x128 .f32 ← Prog.lift (.load B.wouts (Rect.unit (s := S3x256x128) ![l.val, 0, 0] S1x256x128.size
    (wout_inb l)).toLoadRect (View.loadsAt_vmem h_S1x256x128))
  let _m : Vec F S128x128 .f32 ← Prog.lift (.load B.mine (Rect.unit (s := S128x128) ![0, 0] S128x128.size inb_S128x128_S128x128_0_0).toLoadRect
    (View.loadsAt_vmem h_S128x128))
  Prog.lift (.store B.mine (Rect.unit (s := S128x128) ![0, 0] S128x128.size inb_S128x128_S128x128_0_0) (partialOf x wi wo) Finset.univ
    (View.stores_vmem_bits_univ h_S128x128 rfl) (.inl rfl))

/-- The second half of a layer: the sum over the devices, scattered and gathered. -/
def exchange (B : Bufs) (d : Dev nD) (l : Fin 3) : TProg F (FVec F S128x128 .f32) := do
  forEach peers (scatter B d l)
  let own : Vec F S8x128 .f32 ← Prog.lift (.load B.mine (Rect.unit (s := S128x128) (k0_off2 d) S8x128.size (k0_off2_inb d)).toLoadRect
    (View.loadsAt_vmem h_S8x128))
  let s ← foldEach peers own (accumulate B l)
  keep B d l s
  forEach peers (share B d l)
  forEach peers (receive B d l)
  let v : Vec F S1x128x128 .f32 ← Prog.lift (.load B.ag (Rect.unit (s := S3x128x128) ![l.val, 0, 0] S1x128x128.size
    (all_inb l)).toLoadRect (View.loadsAt_vmem h_S1x128x128))
  forEach peers (scattered B d l)
  forEach peers (shared B d l)
  pure (shapeCast S128x128 v shapeCasts_S1x128x128_S128x128)

/-- One layer. -/
def layer (B : Bufs) (d : Dev nD) (x : FVec F S128x128 .f32) (l : Fin 3) : TProg F (FVec F S128x128 .f32) := do
  multiply B l x
  barrier l
  exchange B d l

/-- The kernel's body. -/
def body (B : Bufs) : TProg F PUnit := do
  let d : Dev nD ← Prog.lift .deviceId
  forEach peers (greet d)
  startLoads B
  Prog.lift (.waitDma2 (loadSem B.loads ⟨0, by decide⟩) B.x B.xv (View.wordExact_bits rfl) (View.wordExact_bits rfl))
  let x : Vec F S128x128 .f32 ← Prog.lift (.load B.xv (Rect.unit (s := S128x128) ![0, 0] S128x128.size inb_S128x128_S128x128_0_0).toLoadRect
    (View.loadsAt_vmem h_S128x128))
  let y ← foldEach [⟨0, by decide⟩, ⟨1, by decide⟩, ⟨2, by decide⟩] x (layer B d)
  let _o : Vec F S128x128 .f32 ← Prog.lift (.load B.out (Rect.unit (s := S128x128) ![0, 0] S128x128.size inb_S128x128_S128x128_0_0).toLoadRect
    (View.loadsAt_vmem h_S128x128))
  Prog.lift (.store B.out (Rect.unit (s := S128x128) ![0, 0] S128x128.size inb_S128x128_S128x128_0_0) y Finset.univ
    (View.stores_vmem_bits_univ h_S128x128 rfl) (.inl rfl))

/-- Two programs that begin with the same operation and go on alike are one. -/
theorem op_congr {α β : Type} {e e' : TpuEff nD τ sig (Elt F) Λ₀ .tc β} {k k' : β → TProg F α} (he : e = e') (hk : ∀ x, k x = k' x) :
    (Prog.op e k : TProg F α) = Prog.op e' k' := by
  subst he
  exact congrArg _ (funext hk)

set_option maxRecDepth 65536 in
set_option maxHeartbeats 2000000 in
/-- The printed body is the body written with loops. -/
theorem body_eq (arg0 : Memref sig .tc .hbm S128x128 .f32) (harg0 : arg0.IsWhole) (arg1 : Memref sig .tc .hbm S128x256 .f32) (harg1 : arg1.IsWhole) (arg2 : Memref sig .tc .hbm S256x128 .f32) (harg2 : arg2.IsWhole) (arg3 : Memref sig .tc .hbm S128x256 .f32) (harg3 : arg3.IsWhole) (arg4 : Memref sig .tc .hbm S256x128 .f32) (harg4 : arg4.IsWhole) (arg5 : Memref sig .tc .hbm S128x256 .f32) (harg5 : arg5.IsWhole) (arg6 : Memref sig .tc .hbm S256x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S3x128x256 .f32) (harg9 : arg9.IsWhole) (arg10 : Memref sig .tc .vmem S3x256x128 .f32) (harg10 : arg10.IsWhole) (arg11 : Memref sig .tc .vmem S128x128 .f32) (harg11 : arg11.IsWhole) (arg12 : Memref sig .tc .vmem S8x128 .f32) (harg12 : arg12.IsWhole) (arg13 : Memref sig .tc .vmem S3x16x8x128 .f32) (harg13 : arg13.IsWhole) (arg14 : Memref sig .tc .vmem S3x128x128 .f32) (harg14 : arg14.IsWhole) (arg15 : DmaSems sig S7) (arg16 : DmaSems sig S3x16) (arg17 : DmaSems sig S3x16) (arg18 : DmaSems sig S3x16) (arg19 : DmaSems sig S3x16) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 arg19
      = body ⟨arg0, ![arg1, arg3, arg5], ![arg2, arg4, arg6], arg7, arg8, arg9, arg10, arg11, arg12, arg13, arg14, arg15, arg16, arg17, arg18, arg19⟩ := by
  repeat refine op_congr rfl fun _ => ?_
  rfl

end Cert.KernelIdeal.Mlp

end
-- ==== Proof.Setting.lean ====
/-
  The setting of the run: the resources its assertions speak of, and the rules of the operations the body
  uses, stated of memrefs owned at named contents.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A barrier cell has a duty for each of the fifteen peers; every other cell has the one duty `0`. -/
abbrev Duty := Fin 15

abbrev UB := URounds (GSem nD τ sig) Duty
abbrev UU := UR sig nD τ × UB

local notation "𝕄" => MT nD τ sig Unit (Elt F) ℕ UU ℕ

/-- The pipeline's part of the resources, and the cells'. -/
abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`'s TensorCore. -/
abbrev runs (c : Dev nD) {α : Type} (p : TProg F α) (Q : α → sProp 𝕄) : sProp 𝕄 :=
  wp frame (wpE (defs₀ (F := F)) 𝒱₀ (c : Thread nD τ) none) Set.univ p Q

/-- Device `c` owns a memref of its TensorCore at contents `X`. -/
abbrev has (c : Dev nD) {sp : Space} {sh : Shape} {e : EltTy} (m : Memref sig .tc sp sh e) (q : PosShare TreeShare)
    (X : sh.Idx → Elt F e) : sProp 𝕄 := owns (Ix := Unit) (Name := ℕ) (U := UU) (Lvl := ℕ) (c : Thread nD τ) m q X

/-- A run is followed by what follows from its end. -/
theorem runs_then {c : Dev nD} {α : Type} {p : TProg F α} {P : sProp 𝕄} {Q Q' : α → sProp 𝕄} (h : P ⊢ runs c p Q) :
    P ⊢ iprop((∀ a, Q a -∗ Q' a) -∗ runs c p Q') :=
  h.trans (wp_wand _ _ _)

/-- A program that goes on runs if its first part runs to where the rest does. -/
theorem runs_bind {c : Dev nD} {α β : Type} (p : TProg F α) (k : α → TProg F β) (Q : β → sProp 𝕄) :
    runs c (p >>= k) Q = runs c p fun a => runs c (k a) Q := wp_bind _ _ _ p k Q

/-- A program that is done has run. -/
theorem runs_pure (c : Dev nD) {α : Type} (a : α) (Q : α → sProp 𝕄) : Q a ⊢ runs c (pure a) Q := by
  unfold runs; rw [wp_pure]; exact fupd_intro

/-! ## Loops -/

theorem sepL_cons {α : Type} (a : α) (l : List α) (P : α → sProp 𝕄) : bigSepL (a :: l) P = iprop(P a ∗ bigSepL l P) :=
  bigSepL_cons a l P

/-- A loop over a list: each step takes its own `P a` to `Q a`, and the state `I` from what is still to do to what
    is left after it. -/
theorem runs_forEach {c : Dev nD} {α : Type} (f : α → TProg F PUnit) (P Q : α → sProp 𝕄) (I : List α → sProp 𝕄)
    (step : ∀ a rest, iprop(P a ∗ I (a :: rest)) ⊢ runs c (f a) fun _ => iprop(Q a ∗ I rest)) :
    ∀ l : List α, iprop(bigSepL l P ∗ I l) ⊢ runs c (forEach l f) fun _ => iprop(bigSepL l Q ∗ I [])
  | [] => runs_pure c PUnit.unit fun _ => iprop(bigSepL [] Q ∗ I [])
  | a :: rest => by
    rw [forEach, runs_bind, sepL_cons, sepL_cons]
    iintro ⟨⟨Ha, Hr⟩, HI⟩
    iapply (runs_then (step a rest)) $$ [Ha HI]
    · isplitl [Ha] <;> iassumption
    iintro %_ ⟨HQ, HI⟩
    iapply (runs_then (runs_forEach f P Q I step rest)) $$ [Hr HI]
    · isplitl [Hr] <;> iassumption
    iintro %_ ⟨HQs, HI⟩
    isplitr [HI]
    · isplitl [HQ] <;> iassumption
    iexact HI

/-- The same for a loop that passes a value along: the value is `g` folded over what is done. -/
theorem runs_foldEach {c : Dev nD} {α β : Type} (f : β → α → TProg F β) (g : β → α → β) (P Q : α → sProp 𝕄)
    (I : List α → sProp 𝕄)
    (step : ∀ b a rest, iprop(P a ∗ I (a :: rest)) ⊢ runs c (f b a) fun b' => iprop(⌜b' = g b a⌝ ∗ Q a ∗ I rest)) :
    ∀ (l : List α) (b : β), iprop(bigSepL l P ∗ I l)
      ⊢ runs c (foldEach l b f) fun b' => iprop(⌜b' = l.foldl g b⌝ ∗ bigSepL l Q ∗ I [])
  | [], b => by
    refine BIBase.Entails.trans ?_ (runs_pure c b _)
    iintro H
    isplitr; · ipureintro; rfl
    iexact H
  | a :: rest, b => by
    rw [foldEach, runs_bind, sepL_cons, sepL_cons]
    iintro ⟨⟨Ha, Hr⟩, HI⟩
    iapply (runs_then (step b a rest)) $$ [Ha HI]
    · isplitl [Ha] <;> iassumption
    iintro %b' ⟨%hb, HQ, HI⟩
    subst hb
    iapply (runs_then (runs_foldEach f g P Q I step rest (g b a))) $$ [Hr HI]
    · isplitl [Hr] <;> iassumption
    iintro %b'' ⟨%hb, HQs, HI⟩
    isplitr; · ipureintro; exact hb
    isplitr [HI]
    · isplitl [HQ] <;> iassumption
    iexact HI

/-! ## Memrefs at named contents -/

/-- Counting elements differently and back. -/
theorem cast_back {s t : Shape} {α : Type} (v : s.Idx → α) (h : s.ShapeCasts t) (h' : t.ShapeCasts s) :
    shapeCast s (shapeCast t v h) h' = v := by
  funext j
  unfold shapeCast
  rw [Shape.reshapeEquiv_reshapeEquiv, Shape.reshapeEquiv_self]

/-- A squeezed memref is owned at the contents of the memref it was made from, counted differently. -/
theorem has_squeeze (c : Dev nD) {sp : Space} {s s' : Shape} {e : EltTy} (m : Memref sig .tc sp s e) (h : s.Squeezes s')
    (q : PosShare TreeShare) (h1 : s.ShapeCasts s') (h2 : s'.ShapeCasts s) (X : s'.Idx → Elt F e) :
    has c (m.squeeze s' h) q X = has c m q (shapeCast s X h2) := by
  unfold has owns
  have hset : (m.squeeze s' h).view.set = m.view.set := View.set_reshape _ _
  have hread (f : m.view.ty.Contents (Elt F)) :
      ((m.squeeze s' h).view.read (Elt F) f = X) = (m.view.read (Elt F) f = shapeCast s X h2) := by
    have e1 : (m.squeeze s' h).view.read (Elt F) f = shapeCast s' (m.view.read (Elt F) f) h1 := rfl
    rw [e1]
    refine propext ⟨fun hX => ?_, fun hX => ?_⟩
    · rw [← hX]; exact (cast_back _ h1 h2).symm
    · rw [hX]; exact cast_back _ h2 h1
  simp only [hset]
  exact congrArg _ (funext fun f => by rw [show iprop(⌜(m.squeeze s' h).view.read (Elt F) f = X⌝) = (iprop(⌜m.view.read (Elt F) f = shapeCast s X h2⌝) : sProp 𝕄) from by rw [hread f]])

/-- A load of a rectangle owned at `X` reads `X`. -/
theorem runs_load (c : Dev nD) {cs : CoreSpace} {s : Shape} {e : EltTy} (m : Memref sig .tc cs s e) (r : Rect s)
    (hr : ∀ a, r.stride a = 1) (hl : m.view.LoadsAt r.toLoadRect) (q : PosShare TreeShare) (X : r.shape.Idx → Elt F e) :
    has c (m.slice r hr) q X
      ⊢ runs c (Prog.lift (.load m r.toLoadRect hl)) fun v => iprop(⌜v = X⌝ ∗ has c (m.slice r hr) q X) := by
  unfold has owns runs Prog.lift
  iintro ⟨%f, %hf, H⟩
  iapply (wp_load 𝒱₀ (c : Thread nD τ) none Set.univ (m := m) (r := r.toLoadRect) (S := (m.slice r hr).view.set) (f := f) (by
    exact (View.set_slice m.view r).symm.subset)) $$ H
  iintro H
  rw [wp_ret]
  imodintro
  isplitr; · ipureintro; exact hf
  iexists f
  isplitr; · ipureintro; exact hf
  iexact H

/-- A store of a rectangle leaves what was stored. -/
theorem runs_store (c : Dev nD) {cs : CoreSpace} {s : Shape} {e : EltTy} (m : Memref sig .tc cs s e) (r : Rect s)
    (hr : ∀ a, r.stride a = 1) (w : r.shape.Idx → Elt F e) (hx : (m.access r).Stores Finset.univ)
    (hm : (Finset.univ : Finset r.shape.Idx) = Finset.univ ∨ ∀ a, r.stride a = 1) (X : r.shape.Idx → Elt F e) :
    has c (m.slice r hr) fullShare X
      ⊢ runs c (Prog.lift (.store m r w Finset.univ hx hm)) fun _ => has c (m.slice r hr) fullShare w := by
  unfold has owns runs Prog.lift
  iintro ⟨%f, -, H⟩
  iapply (wp_store 𝒱₀ (c : Thread nD τ) none Set.univ (m := m) (r := r) (w := w) (Mk := Finset.univ) (S := (m.slice r hr).view.set) (f := f)
    (Finset.Subset.refl _)) $$ H
  iintro H
  rw [wp_ret]
  imodintro
  iexists _
  isplitr
  · ipureintro; exact View.read_write_univ f w
  iexact H

end Cert.KernelIdeal.Mlp

end
-- ==== Proof.Memory.lean ====
/-
  The kernel's buffers, the pieces its copies move, and how the buffers fall into those pieces.
-/
module

public import proofs.«01_k».proof.Proof.Setting
public import Idealize.ShloMosaic.Lib.Ring
public import Idealize.ShloMosaic.Lib.ValueLayout

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)
open Cert.KernelIdeal Cert.KernelIdeal.Gen

variable {F : FTy → Type} [FloatOps F]

local notation "𝕄" => MT nD τ sig Unit (Elt F) ℕ UU ℕ

/-- The buffers and semaphores of the kernel's one grid point. -/
def B₀ : Bufs :=
  ⟨Memref.whole main_arg0, ![Memref.whole main_arg1, Memref.whole main_arg2, Memref.whole main_arg3],
   ![Memref.whole main_arg4, Memref.whole main_arg5, Memref.whole main_arg6], Memref.whole cc0_stg0_0,
   Memref.whole cc0_scratch0, Memref.whole cc0_scratch1, Memref.whole cc0_scratch2, Memref.whole cc0_scratch3,
   Memref.whole cc0_scratch4, Memref.whole cc0_scratch5, Memref.whole cc0_scratch6, cc0_scratch7, cc0_scratch8,
   cc0_scratch9, cc0_scratch10, cc0_scratch11⟩

/-! ## The pieces -/

/-- The distance around the mesh that peer `r` stands for. -/
def off (r : Fin 15) : Fin 16 := ⟨1 + r.val, by omega⟩

theorem peer_off (d : Dev nD) (r : Fin 15) : peer d r = d + off r := peer_eq d r

theorem rs_inb : ∀ (p : Fin 3 × Fin 16) (a : Fin 4), (![p.1.val, p.2.val, 0, 0] : Fin 4 → Nat) a + S1x1x8x128.size a ≤ S3x16x8x128.size a := by
  decide +kernel
theorem ag_inb : ∀ (p : Fin 3 × Fin 16) (a : Fin 3), (![p.1.val, 8 * p.2.val, 0] : Fin 3 → Nat) a + S1x8x128.size a ≤ S3x128x128.size a := by
  decide +kernel
theorem mine_inb : ∀ (d : Fin 16) (a : Fin 2), (![8 * d.val, 0] : Fin 2 → Nat) a + S8x128.size a ≤ S128x128.size a := by
  decide +kernel
theorem part_inb : ∀ (d : Fin 16) (a : Fin 3), (![0, 8 * d.val, 0] : Fin 3 → Nat) a + S1x8x128.size a ≤ S1x128x128.size a := by
  decide +kernel

/-- Slot `o` of layer `l` of the landing buffer; -/
abbrev rsRect (p : Fin 3 × Fin 16) : Rect S3x16x8x128 := Rect.unit (s := S3x16x8x128) ![p.1.val, p.2.val, 0, 0] S1x1x8x128.size (rs_inb p)
/-- device `d`'s rows in layer `l` of the gathered activations; -/
abbrev agRect (p : Fin 3 × Fin 16) : Rect S3x128x128 := Rect.unit (s := S3x128x128) ![p.1.val, 8 * p.2.val, 0] S1x8x128.size (ag_inb p)
/-- device `d`'s rows of a partial product; -/
abbrev mineRect (d : Fin 16) : Rect S128x128 := Rect.unit (s := S128x128) ![8 * d.val, 0] S8x128.size (mine_inb d)
/-- one layer of the gathered activations, and device `d`'s rows of it; -/
abbrev layRect (l : Fin 3) : Rect S3x128x128 := Rect.unit (s := S3x128x128) ![l.val, 0, 0] S1x128x128.size (all_inb l)
abbrev partRect (d : Fin 16) : Rect S1x128x128 := Rect.unit (s := S1x128x128) ![0, 8 * d.val, 0] S1x8x128.size (part_inb d)
/-- one layer of the weights' buffers. -/
abbrev winRect (l : Fin 3) : Rect S3x128x256 := Rect.unit (s := S3x128x256) ![l.val, 0, 0] S1x128x256.size (win_inb l)
abbrev woutRect (l : Fin 3) : Rect S3x256x128 := Rect.unit (s := S3x256x128) ![l.val, 0, 0] S1x256x128.size (wout_inb l)

/-- The landing slots, the gathered rows and the partial product's rows as memrefs. -/
abbrev slotM (l : Fin 3) (o : Fin 16) : Memref sig .tc .vmem S8x128 .f32 :=
  (B₀.rs.slice (rsRect (l, o)) (fun _ => rfl)).squeeze S8x128 squeezes_S1x1x8x128_S8x128
abbrev agM (l : Fin 3) (d : Fin 16) : Memref sig .tc .vmem S8x128 .f32 :=
  (B₀.ag.slice (agRect (l, d)) (fun _ => rfl)).squeeze S8x128 squeezes_S1x8x128_S8x128
abbrev mineM (d : Fin 16) : Memref sig .tc .vmem S8x128 .f32 := B₀.mine.slice (mineRect d) (fun _ => rfl)
abbrev layM (l : Fin 3) : Memref sig .tc .vmem S1x128x128 .f32 := B₀.ag.slice (layRect l) (fun _ => rfl)

/-- and the landing slots. -/
theorem landing_eq (l : Fin 3) (r : Fin 15) : landing B₀.rs l r = slotM l (off r) := rfl

/-- Slices at equal offsets are one. -/
theorem slice_congr {sp : Space} {s : Shape} {e : EltTy} (m : Memref sig .tc sp s e) {o o' sz : Fin s.rank → Nat} (h : o = o')
    (hi : ∀ a, o a + sz a ≤ s.size a) (hi' : ∀ a, o' a + sz a ≤ s.size a) :
    m.slice (Rect.unit o sz hi) (fun _ => rfl) = m.slice (Rect.unit o' sz hi') (fun _ => rfl) := by
  subst h; rfl

/-- and so are a device's own rows of the gathered activations, -/
theorem ownRows_eq (l : Fin 3) (d : Dev nD) : ownRows B₀.ag l d = agM l d :=
  congrArg (fun m : Memref sig .tc .vmem S1x8x128 .f32 => m.squeeze S8x128 squeezes_S1x8x128_S8x128)
    (slice_congr B₀.ag (ownOff_eq l d) _ _)

theorem k0_off1_peer : ∀ (d : Dev nD) (r : Fin 15), k0_off1 d (BitVec.ofNat 32 (1 + r.val)) = ![8 * (peer d r).val, 0] := by
  decide +kernel

/-- The rows that the printed text sends to a peer are the pieces named here, -/
theorem rowsFor_eq (d : Dev nD) (r : Fin 15) : rowsFor B₀.mine d r = mineM (peer d r) :=
  slice_congr B₀.mine (k0_off1_peer d r) _ _

/-! ## Owned at some contents -/

/-- Device `c` owns a memref at some contents. -/
def avail (c : Dev nD) {sp : Space} {sh : Shape} {e : EltTy} (m : Memref sig .tc sp sh e) : sProp 𝕄 :=
  iprop(∃ X, has c m fullShare X)

instance avail_storable (c : Dev nD) {sp : Space} {sh : Shape} {e : EltTy} (m : Memref sig .tc sp sh e) :
    BI.Storable (upEmb : UEmb _ 𝕄) (avail (F := F) c m) := by unfold avail; infer_instance

/-- What holds known contents may be used. -/
theorem avail_of (c : Dev nD) {sp : Space} {sh : Shape} {e : EltTy} (m : Memref sig .tc sp sh e) (X : sh.Idx → Elt F e) :
    has c m fullShare X ⊢ avail c m := by
  unfold avail; iintro H; iexists X; iexact H

/-- A buffer seen without its unit axes may be used as before. -/
theorem avail_squeeze (c : Dev nD) {sp : Space} {s s' : Shape} {e : EltTy} (m : Memref sig .tc sp s e) (h : s.Squeezes s') :
    avail (F := F) c (m.squeeze s' h) = avail c m := by
  have h1 : s.ShapeCasts s' := h.numel_eq
  have h2 : s'.ShapeCasts s := h.numel_eq.symm
  have a : avail (F := F) c (m.squeeze s' h) ⊢ avail c m := by
    unfold avail
    iintro ⟨%X, H⟩; iexists shapeCast s X h2
    iapply (Entails.of_eq (has_squeeze c m h fullShare h1 h2 X)); iexact H
  have b : avail (F := F) c m ⊢ avail c (m.squeeze s' h) := by
    unfold avail
    iintro ⟨%X, H⟩; iexists shapeCast s' X h1
    iapply (Entails.of_eq (has_squeeze c m h fullShare h1 h2 (shapeCast s' X h1)).symm)
    rw [cast_back]; iexact H
  exact BI.equiv_iff.mp ⟨a, b⟩

theorem avail_raw (c : Dev nD) {sp : Space} {sh : Shape} {e : EltTy} (m : Memref sig .tc sp sh e) :
    avail (F := F) c m ⊢ ∃ f, m.view.loc (c : Thread nD τ) ↦[m.view.set]{fullShare} f := by
  unfold avail has owns
  iintro ⟨%X, %f, -, H⟩; iexists f; iexact H

theorem avail_of_raw (c : Dev nD) {sp : Space} {sh : Shape} {e : EltTy} (m : Memref sig .tc sp sh e) :
    (iprop(∃ f, m.view.loc (c : Thread nD τ) ↦[m.view.set]{fullShare} f) : sProp 𝕄) ⊢ avail (F := F) c m := by
  unfold avail has
  iintro ⟨%f, H⟩; iexists (m.view.read (Elt F) f)
  iapply (owns_intro (c : Thread nD τ) m fullShare f); iexact H

section Rects

variable (c : Dev nD) {sp : Space} {sh : Shape} {e : EltTy} (m : Memref sig .tc sp sh e)
variable {T : Type} [Fintype T] [DecidableEq T] (r : T → Rect sh) (hr : ∀ t a, (r t).stride a = 1)
  (hd : ∀ t t', t ≠ t' → Disjoint (r t).set (r t').set)
  (hcov : ∀ x : sh.Idx, ∃ t, x ∈ (r t).set)
include hd hcov

/-- The rectangles cover the buffer. -/
theorem rects_cover : (Finset.univ : Finset T).biUnion (fun t => (r t).set) = Finset.univ := by
  ext x; simpa using hcov x

/-- A memref at some contents is its pieces at some contents. -/
theorem avail_split : avail (F := F) c m ⊢ bigSep Finset.univ fun t => avail c (m.slice (r t) (hr t)) := by
  have a (X : sh.Idx → Elt F e) : has c m fullShare X ⊢ bigSep Finset.univ fun t => avail c (m.slice (r t) (hr t)) :=
    (owns_rects (c : Thread nD τ) m fullShare r hr hd (rects_cover r hd hcov) X).trans
      (bigSep_mono fun t _ => avail_of c (m.slice (r t) (hr t)) fun j => X ((r t).emb j))
  conv => lhs; unfold avail
  iintro ⟨%X, H⟩
  iapply (a X); iexact H

/-- The pieces, put together again, are the buffer. -/
theorem avail_join : (bigSep Finset.univ fun t => avail (F := F) c (m.slice (r t) (hr t))) ⊢ avail c m := by
  have hset : (Finset.univ : Finset T).biUnion (fun t => (m.slice (r t) (hr t)).view.set) = m.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, hx⟩ := hcov x
      exact Finset.mem_biUnion.mpr ⟨t, Finset.mem_univ _, by
        show m.view.emb x ∈ (m.view.slice (r t)).set
        rw [View.set_slice]; exact Finset.mem_map_of_mem _ hx⟩
  have hdv (t t' : T) (htt : t ≠ t') : Disjoint (m.slice (r t) (hr t)).view.set (m.slice (r t') (hr t')).view.set := by
    show Disjoint (m.view.slice (r t)).set (m.view.slice (r t')).set
    rw [View.set_slice, View.set_slice]; exact (Finset.disjoint_map _).mpr (hd t t' htt)
  exact (bigSep_mono fun t _ => avail_raw c (m.slice (r t) (hr t))).trans
    ((Ring.pointsTo_sub_blocks_join_exists (ℓ := m.view.loc (c : Thread nD τ))
      (fun t => (m.slice (r t) (hr t)).view.set) hdv m.view.set hset (q := fullShare)
      (fun _ => Classical.arbitrary _)).trans (avail_of_raw c m))

end Rects

/-! ## The families of pieces -/

theorem rs_disj (p p' : Fin 3 × Fin 16) (h : p ≠ p') : Disjoint (rsRect p).set (rsRect p').set := by
  rw [Finset.disjoint_left]
  intro x hx hx'
  have h1 := Rect.mem_set_unit.mp hx
  have h2 := Rect.mem_set_unit.mp hx'
  have a0 := h1 0; have a1 := h1 1; have b0 := h2 0; have b1 := h2 1
  dsimp at a0 a1 b0 b1
  exact h (Prod.ext (Fin.ext (by omega)) (Fin.ext (by omega)))

theorem rs_cover (x : S3x16x8x128.Idx) : ∃ p, x ∈ (rsRect p).set := by
  refine ⟨(⟨(x 0).val, (x 0).isLt⟩, ⟨(x 1).val, (x 1).isLt⟩), Rect.mem_set_unit.mpr fun a => ?_⟩
  have h2 : (x 2).val < 8 := (x 2).isLt
  have h3 : (x 3).val < 128 := (x 3).isLt
  fin_cases a <;> dsimp <;> omega

theorem ag_disj (p p' : Fin 3 × Fin 16) (h : p ≠ p') : Disjoint (agRect p).set (agRect p').set := by
  rw [Finset.disjoint_left]
  intro x hx hx'
  have h1 := Rect.mem_set_unit.mp hx
  have h2 := Rect.mem_set_unit.mp hx'
  have a0 := h1 0; have a1 := h1 1; have b0 := h2 0; have b1 := h2 1
  dsimp at a0 a1 b0 b1
  exact h (Prod.ext (Fin.ext (by omega)) (Fin.ext (by omega)))

theorem ag_cover (x : S3x128x128.Idx) : ∃ p, x ∈ (agRect p).set := by
  have h1 : (x 1).val < 128 := (x 1).isLt
  refine ⟨(⟨(x 0).val, (x 0).isLt⟩, ⟨(x 1).val / 8, by omega⟩), Rect.mem_set_unit.mpr fun a => ?_⟩
  have h2 : (x 2).val < 128 := (x 2).isLt
  fin_cases a <;> dsimp <;> omega

theorem mine_disj (d d' : Fin 16) (h : d ≠ d') : Disjoint (mineRect d).set (mineRect d').set := by
  rw [Finset.disjoint_left]
  intro x hx hx'
  have a0 := Rect.mem_set_unit.mp hx 0; have b0 := Rect.mem_set_unit.mp hx' 0
  dsimp at a0 b0
  exact h (Fin.ext (by omega))

theorem mine_cover (x : S128x128.Idx) : ∃ d, x ∈ (mineRect d).set := by
  have h1 : (x 0).val < 128 := (x 0).isLt
  refine ⟨⟨(x 0).val / 8, by omega⟩, Rect.mem_set_unit.mpr fun a => ?_⟩
  have h2 : (x 1).val < 128 := (x 1).isLt
  fin_cases a <;> dsimp <;> omega

theorem part_disj (d d' : Fin 16) (h : d ≠ d') : Disjoint (partRect d).set (partRect d').set := by
  rw [Finset.disjoint_left]
  intro x hx hx'
  have a0 := Rect.mem_set_unit.mp hx 1; have b0 := Rect.mem_set_unit.mp hx' 1
  dsimp at a0 b0
  exact h (Fin.ext (by omega))

theorem part_cover (x : S1x128x128.Idx) : ∃ d, x ∈ (partRect d).set := by
  have h0 : (x 0).val < 1 := (x 0).isLt
  have h1 : (x 1).val < 128 := (x 1).isLt
  refine ⟨⟨(x 1).val / 8, by omega⟩, Rect.mem_set_unit.mpr fun a => ?_⟩
  have h2 : (x 2).val < 128 := (x 2).isLt
  fin_cases a <;> dsimp <;> omega

theorem lay_disj (l l' : Fin 3) (h : l ≠ l') : Disjoint (layRect l).set (layRect l').set := by
  rw [Finset.disjoint_left]
  intro x hx hx'
  have a0 := Rect.mem_set_unit.mp hx 0; have b0 := Rect.mem_set_unit.mp hx' 0
  dsimp at a0 b0
  exact h (Fin.ext (by omega))

theorem lay_cover (x : S3x128x128.Idx) : ∃ l, x ∈ (layRect l).set := by
  refine ⟨⟨(x 0).val, (x 0).isLt⟩, Rect.mem_set_unit.mpr fun a => ?_⟩
  have h1 : (x 1).val < 128 := (x 1).isLt
  have h2 : (x 2).val < 128 := (x 2).isLt
  fin_cases a <;> dsimp <;> omega

theorem win_disj (l l' : Fin 3) (h : l ≠ l') : Disjoint (winRect l).set (winRect l').set := by
  rw [Finset.disjoint_left]
  intro x hx hx'
  have a0 := Rect.mem_set_unit.mp hx 0; have b0 := Rect.mem_set_unit.mp hx' 0
  dsimp at a0 b0
  exact h (Fin.ext (by omega))

theorem win_cover (x : S3x128x256.Idx) : ∃ l, x ∈ (winRect l).set := by
  refine ⟨⟨(x 0).val, (x 0).isLt⟩, Rect.mem_set_unit.mpr fun a => ?_⟩
  have h1 : (x 1).val < 128 := (x 1).isLt
  have h2 : (x 2).val < 256 := (x 2).isLt
  fin_cases a <;> dsimp <;> omega

theorem wout_disj (l l' : Fin 3) (h : l ≠ l') : Disjoint (woutRect l).set (woutRect l').set := by
  rw [Finset.disjoint_left]
  intro x hx hx'
  have a0 := Rect.mem_set_unit.mp hx 0; have b0 := Rect.mem_set_unit.mp hx' 0
  dsimp at a0 b0
  exact h (Fin.ext (by omega))

theorem wout_cover (x : S3x256x128.Idx) : ∃ l, x ∈ (woutRect l).set := by
  refine ⟨⟨(x 0).val, (x 0).isLt⟩, Rect.mem_set_unit.mpr fun a => ?_⟩
  have h1 : (x 1).val < 256 := (x 1).isLt
  have h2 : (x 2).val < 128 := (x 2).isLt
  fin_cases a <;> dsimp <;> omega

/-! ## The same memory, spelled differently -/

/-- A slice of everything is the memref. -/
theorem has_full (c : Dev nD) {sp : Space} {sh : Shape} {e : EltTy} (m : Memref sig .tc sp sh e) (o : Fin sh.rank → Nat)
    (ho : o = fun _ => 0) (hi : ∀ a, o a + sh.size a ≤ sh.size a) (q : PosShare TreeShare) (X : sh.Idx → Elt F e) :
    has c (m.slice (Rect.unit o sh.size hi) (fun _ => rfl)) q X = has c m q X := by
  subst ho
  have hemb (j : sh.Idx) : (Rect.unit (fun _ => 0) sh.size hi).emb j = j := by
    funext a; apply Fin.ext; simp
  have hset : (m.slice (Rect.unit (fun _ => 0) sh.size hi) (fun _ => rfl)).view.set = m.view.set := by
    show (m.view.slice (Rect.unit (fun _ => 0) sh.size hi)).set = _
    refine (View.set_slice _ _).trans ?_
    rw [show (Rect.unit (fun _ => 0) sh.size hi).set = Finset.univ from Rect.set_whole sh]
    rfl
  have hread (f : m.view.ty.Contents (Elt F)) :
      (m.slice (Rect.unit (fun _ => 0) sh.size hi) (fun _ => rfl)).view.read (Elt F) f = m.view.read (Elt F) f := by
    funext j; exact congrArg (m.view.read (Elt F) f) (hemb j)
  unfold has owns
  simp only [hset]
  exact congrArg _ (funext fun f => by rw [← hread f])

/-- A slice of a slice is the slice it comes to. -/
theorem has_slice_slice (c : Dev nD) {sp : Space} {sh : Shape} {e : EltTy} (m : Memref sig .tc sp sh e) (r : Rect sh)
    (hr : ∀ a, r.stride a = 1) (r' : Rect r.shape) (hr' : ∀ a, r'.stride a = 1) (o : Fin sh.rank → Nat)
    (hi : ∀ a, o a + r'.size a ≤ sh.size a)
    (ho : ∀ a, o a = r.off a + r'.off a) (q : PosShare TreeShare) (X : r'.shape.Idx → Elt F e) :
    has c ((m.slice r hr).slice r' hr') q X
      = has c (m.slice (Rect.unit o r'.size hi) (fun _ => rfl)) q X := by
  have hemb : (Rect.unit o r'.size hi).emb = r'.emb.trans r.emb := by
    ext j a
    show o a + 1 * (j a).val = r.off a + r.stride a * (r'.off a + r'.stride a * (j a).val)
    rw [ho, hr, hr']; omega
  have hset : ((m.slice r hr).slice r' hr').view.set = (m.slice (Rect.unit o r'.size hi) (fun _ => rfl)).view.set := by
    show ((m.view.slice r).slice r').set = (m.view.slice (Rect.unit o r'.size hi)).set
    unfold View.set
    exact congrArg (Finset.map · Finset.univ) (congrArg (fun g : r'.shape.Idx ↪ sh.Idx => g.trans m.view.emb) hemb.symm)
  have hread (f : m.view.ty.Contents (Elt F)) :
      ((m.slice r hr).slice r' hr').view.read (Elt F) f = (m.slice (Rect.unit o r'.size hi) (fun _ => rfl)).view.read (Elt F) f := by
    funext j
    exact congrArg (m.view.read (Elt F) f) (congrArg (fun g : r'.shape.Idx ↪ sh.Idx => g j) hemb.symm)
  unfold has owns
  simp only [hset]
  exact congrArg _ (funext fun f => by rw [← hread f])

/-! ## Gathering -/

/-- Sixteen devices' rows one below the other. -/
def gather {α : Type} (R : Fin 16 → S8x128.Idx → α) : S128x128.Idx → α := fun i =>
  R ⟨(i 0).val / 8, by have : (i 0).val < 128 := (i 0).isLt; omega⟩
    (ix2 ⟨(i 0).val % 8, Nat.mod_lt _ (by decide)⟩ ⟨(i 1).val, (i 1).isLt⟩)

/-- Device `d`'s rows of an activation. -/
def rowsOf {α : Type} (X : S128x128.Idx → α) (d : Fin 16) : S8x128.Idx → α := fun j => X ((mineRect d).emb j)

/-- A device's rows of the gathered activations are that device's rows. -/
theorem gather_part {α : Type} (R : Fin 16 → S8x128.Idx → α) (d : Fin 16) (h : S128x128.ShapeCasts S1x128x128)
    (h' : S8x128.ShapeCasts S1x8x128) :
    (fun j => shapeCast S1x128x128 (gather R) h ((partRect d).emb j)) = shapeCast S1x8x128 (R d) h' := by
  funext j
  have j0 : (j 0).val < 1 := (j 0).isLt
  have j1 : (j 1).val < 8 := (j 1).isLt
  have e0 : ((partRect d).emb j 0).val = 0 + 1 * (j 0).val := rfl
  have e1 : ((partRect d).emb j 1).val = 8 * d.val + 1 * (j 1).val := rfl
  have e2 : ((partRect d).emb j 2).val = 0 + 1 * (j 2).val := rfl
  have a : Shape.reshapeEquiv h ((partRect d).emb j)
      = ix2 (⟨8 * d.val + (j 1).val, by omega⟩ : Fin 128) (⟨(j 2).val, (j 2).isLt⟩ : Fin 128) :=
    Shape.reshapeEquiv_eq_of_rowMajor _ (by
      rw [Shape.rowMajor_val_three, Shape.rowMajor_val_two, e0, e1, e2]
      show (8 * d.val + (j 1).val) * 128 + (j 2).val
        = ((0 + 1 * (j 0).val) * 128 + (8 * d.val + 1 * (j 1).val)) * 128 + (0 + 1 * (j 2).val)
      omega)
  have b : Shape.reshapeEquiv h' j = ix2 (⟨(j 1).val, j1⟩ : Fin 8) (⟨(j 2).val, (j 2).isLt⟩ : Fin 128) :=
    Shape.reshapeEquiv_eq_of_rowMajor _ (by
      rw [Shape.rowMajor_val_three, Shape.rowMajor_val_two]
      show (j 1).val * 128 + (j 2).val = ((j 0).val * 8 + (j 1).val) * 128 + (j 2).val
      omega)
  unfold shapeCast
  rw [a, b]
  unfold gather
  have q1 : (8 * d.val + (j 1).val) / 8 = d.val := by omega
  have q2 : (8 * d.val + (j 1).val) % 8 = (j 1).val := by omega
  have f1 : (⟨(8 * d.val + (j 1).val) / 8, by omega⟩ : Fin 16) = d := Fin.ext q1
  have f2 : (⟨(8 * d.val + (j 1).val) % 8, Nat.mod_lt _ (by decide)⟩ : Fin 8) = ⟨(j 1).val, j1⟩ := Fin.ext q2
  exact congr (congrArg R f1) (congrArg (fun x : Fin 8 => ix2 x (⟨(j 2).val, (j 2).isLt⟩ : Fin 128)) f2)

/-- The sixteen devices' rows of a layer make up the layer. -/
theorem layer_join (c : Dev nD) (l : Fin 3) (R : Fin 16 → S8x128.Idx → Elt F .f32) :
    (bigSep Finset.univ fun d => has c (agM l d) fullShare (R d))
      ⊢ has c (layM l) fullShare (shapeCast S1x128x128 (gather R) (by decide +kernel)) := by
  refine BIBase.Entails.trans (bigSep_mono fun d _ => ?_)
    (owns_of_rects (c : Thread nD τ) (layM l) fullShare partRect (fun _ _ => rfl) part_disj (rects_cover partRect part_disj part_cover) _)
  have e : has c (agM l d) fullShare (R d)
      = has c ((layM l).slice (partRect d) (fun _ => rfl)) fullShare
        (fun j => shapeCast S1x128x128 (gather R) (by decide +kernel) ((partRect d).emb j)) := by
    rw [gather_part R d _ (by decide +kernel)]
    refine (has_squeeze c _ _ fullShare shapeCasts_S1x8x128_S8x128 shapeCasts_S8x128_S1x8x128 (R d)).trans ?_
    exact (has_slice_slice c B₀.ag (layRect l) (fun _ => rfl) (partRect d) (fun _ => rfl) ![l.val, 8 * d.val, 0]
      (ag_inb (l, d)) (fun a => by fin_cases a <;> simp) fullShare _).symm
  exact Entails.of_eq e

/-- A partial product is its devices' rows. -/
theorem mine_split (c : Dev nD) (X : S128x128.Idx → Elt F .f32) :
    has c B₀.mine fullShare X ⊢ bigSep Finset.univ fun d => has c (mineM d) fullShare (rowsOf X d) :=
  owns_rects (c : Thread nD τ) B₀.mine fullShare mineRect (fun _ _ => rfl) mine_disj (rects_cover mineRect mine_disj mine_cover) X

/-- The partial product's buffer, put together from the devices' rows. -/
theorem mine_join (c : Dev nD) : (bigSep Finset.univ fun d => avail (F := F) c (mineM d)) ⊢ avail c B₀.mine :=
  avail_join c B₀.mine mineRect (fun _ _ => rfl) mine_disj mine_cover

/-- The landing slots' buffer is its slots, -/
theorem rs_split (c : Dev nD) : avail (F := F) c B₀.rs ⊢ bigSep Finset.univ fun p : Fin 3 × Fin 16 => avail c (slotM p.1 p.2) :=
  (avail_split c B₀.rs rsRect (fun _ _ => rfl) rs_disj rs_cover).trans
    (bigSep_mono fun _ _ => Entails.of_eq (avail_squeeze c _ squeezes_S1x1x8x128_S8x128).symm)

/-- and the slots are the buffer. -/
theorem rs_join (c : Dev nD) : (bigSep Finset.univ fun p : Fin 3 × Fin 16 => avail (F := F) c (slotM p.1 p.2)) ⊢ avail c B₀.rs :=
  (bigSep_mono fun _ _ => Entails.of_eq (avail_squeeze c _ squeezes_S1x1x8x128_S8x128)).trans
    (avail_join c B₀.rs rsRect (fun _ _ => rfl) rs_disj rs_cover)

/-- The gathered rows' buffer is every layer's and device's rows, -/
theorem ag_split (c : Dev nD) : avail (F := F) c B₀.ag ⊢ bigSep Finset.univ fun p : Fin 3 × Fin 16 => avail c (agM p.1 p.2) :=
  (avail_split c B₀.ag agRect (fun _ _ => rfl) ag_disj ag_cover).trans
    (bigSep_mono fun _ _ => Entails.of_eq (avail_squeeze c _ squeezes_S1x8x128_S8x128).symm)

/-- and its layers are the buffer. -/
theorem ag_join (c : Dev nD) : (bigSep Finset.univ fun l => avail (F := F) c (layM l)) ⊢ avail c B₀.ag :=
  avail_join c B₀.ag layRect (fun _ _ => rfl) lay_disj lay_cover

/-- The first weights, layer by layer; -/
theorem wins_split (c : Dev nD) : avail (F := F) c B₀.wins ⊢ bigSep Finset.univ fun l => avail c (winLayer B₀.wins l) :=
  (avail_split c B₀.wins winRect (fun _ _ => rfl) win_disj win_cover).trans
    (bigSep_mono fun _ _ => Entails.of_eq (avail_squeeze c _ squeezes_S1x128x256_S128x256).symm)

/-- and back. -/
theorem wins_join (c : Dev nD) : (bigSep Finset.univ fun l => avail (F := F) c (winLayer B₀.wins l)) ⊢ avail c B₀.wins :=
  (bigSep_mono fun _ _ => Entails.of_eq (avail_squeeze c _ squeezes_S1x128x256_S128x256)).trans
    (avail_join c B₀.wins winRect (fun _ _ => rfl) win_disj win_cover)

/-- The second weights, layer by layer; -/
theorem wouts_split (c : Dev nD) : avail (F := F) c B₀.wouts ⊢ bigSep Finset.univ fun l => avail c (woutLayer B₀.wouts l) :=
  (avail_split c B₀.wouts woutRect (fun _ _ => rfl) wout_disj wout_cover).trans
    (bigSep_mono fun _ _ => Entails.of_eq (avail_squeeze c _ squeezes_S1x256x128_S256x128).symm)

/-- and back. -/
theorem wouts_join (c : Dev nD) : (bigSep Finset.univ fun l => avail (F := F) c (woutLayer B₀.wouts l)) ⊢ avail c B₀.wouts :=
  (bigSep_mono fun _ _ => Entails.of_eq (avail_squeeze c _ squeezes_S1x256x128_S256x128)).trans
    (avail_join c B₀.wouts woutRect (fun _ _ => rfl) wout_disj wout_cover)

end Cert.KernelIdeal.Mlp

end
-- ==== Proof.Protocol.lean ====
/-
  The kernel's protocol: which semaphore hands what to whom, what every buffer then holds, what each device
  owes, and the levels that keep the waits from going in a circle.
-/
module

public import proofs.«01_k».proof.Proof.Memory

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Contents -/

section Contents

variable (m : (ℓ : Loc nD τ sig) → Buf (Elt F) ℓ)

/-- The input on device `c`, and its blocks of layer `l`'s weights. -/
def x0 (c : Dev nD) : S128x128.Idx → Elt F .f32 := B₀.x.view.read (Elt F) (m (B₀.x.view.loc (c : Thread nD τ)))
def winV (l : Fin 3) (c : Dev nD) : S128x256.Idx → Elt F .f32 :=
  (B₀.win l).view.read (Elt F) (m ((B₀.win l).view.loc (c : Thread nD τ)))
def woutV (l : Fin 3) (c : Dev nD) : S256x128.Idx → Elt F .f32 :=
  (B₀.wout l).view.read (Elt F) (m ((B₀.wout l).view.loc (c : Thread nD τ)))

/-- Device `d`'s partial product of layer `l`, from activations `X`. -/
def partOf (l : Fin 3) (X : Dev nD → S128x128.Idx → Elt F .f32) (d : Dev nD) : S128x128.Idx → Elt F .f32 :=
  partialOf (F := F) (X d) (shapeCast S1x128x256 (winV m l d) (by decide +kernel)) (shapeCast S1x256x128 (woutV m l d) (by decide +kernel))

/-- One step of the sum of device `c`'s rows over the devices: the rows of the device at distance `r + 1` before. -/
def addRows (P : Dev nD → S128x128.Idx → Elt F .f32) (c : Dev nD) (s : S8x128.Idx → Elt F .f32) (r : Fin 15) :
    S8x128.Idx → Elt F .f32 :=
  accOf (F := F) s (shapeCast S1x1x8x128 (rowsOf (P (c - off r)) c) (by decide +kernel))

/-- The sum over the devices of device `c`'s rows of the partial products `P`, in the order the kernel adds them. -/
def sumRows (P : Dev nD → S128x128.Idx → Elt F .f32) (c : Dev nD) : S8x128.Idx → Elt F .f32 :=
  peers.foldl (addRows P c) (rowsOf (P c) c)

/-- The activations after `n` layers, on each device. -/
def act : ℕ → Dev nD → S128x128.Idx → Elt F .f32
  | 0 => x0 m
  | n + 1 => fun _ => gather (sumRows (partOf m ⟨n % 3, Nat.mod_lt _ (by decide)⟩ (act n)))

/-- Device `d`'s partial product of layer `l`, and device `c`'s rows of the sum of them. -/
def part (l : Fin 3) : Dev nD → S128x128.Idx → Elt F .f32 := partOf m l (act m l.val)
def red (l : Fin 3) : Dev nD → S8x128.Idx → Elt F .f32 := sumRows (part m l)

/-- The activations after a layer are the reduced rows gathered. -/
theorem act_succ (l : Fin 3) (c : Dev nD) : act m (l.val + 1) c = gather (red m l) := by
  have h : (⟨l.val % 3, Nat.mod_lt _ (by decide)⟩ : Fin 3) = l := Fin.ext (Nat.mod_eq_of_lt l.isLt)
  show gather (sumRows (partOf m ⟨l.val % 3, Nat.mod_lt _ (by decide)⟩ (act m l.val))) = _
  rw [h]; rfl

end Contents

/-! ## The semaphores -/

/-- The kernel's own semaphores: the seven of the loads; and for the rows scattered (sent, received: 0, 1) and
    shared (sent, received: 2, 3), for each layer and distance, one. -/
abbrev Own := Fin 7 ⊕ (Fin 4 × Fin 3 × Fin 16)
/-- With the barrier semaphore, which outlives the kernel. -/
abbrev Cell := Option Own

abbrev bar : Cell := none
abbrev ld (i : Fin 7) : Cell := some (.inl i)
abbrev slot (f : Fin 4) (l : Fin 3) (o : Fin 16) : Cell := some (.inr (f, l, o))

def ownSem : Own → DmaSem sig
  | .inl i => (⟨1 + i.val, by have := i.isLt; show _ < 200; omega⟩ : Fin 200)
  | .inr (f, l, o) => (⟨8 + 48 * f.val + 16 * l.val + o.val, by
      have := f.isLt; have := l.isLt; have := o.isLt; show _ < 200; omega⟩ : Fin 200)

def semOf : Cell → SemLoc sig
  | none => .reg barSem
  | some o => .dma (ownSem o)

/-- Which of them a semaphore is. -/
def decode : SemLoc sig → Option Cell
  | .reg _ => some none
  | .dma k =>
    let n := k.val
    if n = 0 then none
    else if n < 8 then some (some (.inl ⟨(n - 1) % 7, Nat.mod_lt _ (by decide)⟩))
    else some (some (.inr (⟨(n - 8) / 48 % 4, Nat.mod_lt _ (by decide)⟩, ⟨(n - 8) / 16 % 3, Nat.mod_lt _ (by decide)⟩,
      ⟨(n - 8) % 16, Nat.mod_lt _ (by decide)⟩)))

theorem decode_semOf : ∀ k : Cell, decode (semOf k) = some k := by decide +kernel

/-- Different names are different semaphores, -/
theorem semOf_injective : Function.Injective semOf := fun k k' h => by
  have := congrArg decode h
  rw [decode_semOf, decode_semOf] at this
  exact Option.some.inj this

/-- A semaphore of a device's TensorCore, as the resources name it. -/
abbrev kcell (p : Dev nD × Cell) : GSem nD τ sig := ((p.1 : Thread nD τ), semOf p.2)

/-- on every device. -/
theorem kcell_injective : Function.Injective kcell := fun p p' h => by
  obtain ⟨h1, h2⟩ := Prod.ext_iff.mp h
  exact Prod.ext (congrArg (fun t : Thread nD τ => t.1) h1) (semOf_injective h2)

/-- The semaphores of the loads by their names. -/
theorem loadSem_eq : ∀ i : Fin 7, SemLoc.dma (loadSem B₀.loads i) = semOf (ld i) := by decide +kernel
/-- The semaphores of the printed text by their names. -/
theorem rsSend_eq : ∀ (l : Fin 3) (r : Fin 15), SemLoc.dma (slotSem B₀.rsSend l r) = semOf (slot 0 l (off r)) := by decide +kernel
theorem rsRecv_eq : ∀ (l : Fin 3) (r : Fin 15), SemLoc.dma (slotSem B₀.rsRecv l r) = semOf (slot 1 l (off r)) := by decide +kernel
theorem agSend_eq : ∀ (l : Fin 3) (r : Fin 15), SemLoc.dma (slotSem B₀.agSend l r) = semOf (slot 2 l (off r)) := by decide +kernel
theorem agRecv_eq : ∀ (l : Fin 3) (r : Fin 15), SemLoc.dma (slotSem B₀.agRecv l r) = semOf (slot 3 l (off r)) := by decide +kernel

/-! ## The schedule -/

/-- What the copies of eight rows credit, and those of the input and of a layer's weights. -/
abbrev N8 : ℕ := (slotM 0 0).view.dmaCredit
abbrev NX : ℕ := B₀.xv.view.dmaCredit
abbrev NI : ℕ := (winLayer B₀.wins 0).view.dmaCredit
abbrev NO : ℕ := (woutLayer B₀.wouts 0).view.dmaCredit

theorem N8_pos : 0 < N8 := View.dmaCredit_pos _ (by decide +kernel)
theorem NX_pos : 0 < NX := View.dmaCredit_pos _ (by decide +kernel)
theorem NI_pos : 0 < NI := View.dmaCredit_pos _ (by decide +kernel)
theorem NO_pos : 0 < NO := View.dmaCredit_pos _ (by decide +kernel)

/-- The units of each load. -/
def loadN : Fin 7 → ℕ := ![NX, NI, NO, NI, NO, NI, NO]

theorem loadN_pos : ∀ i, 0 < loadN i := fun i => by
  fin_cases i
  exacts [NX_pos, NI_pos, NO_pos, NI_pos, NO_pos, NI_pos, NO_pos]

/-- Who credits a semaphore: the fifteen peers the barrier, one copy each of the others that is used. -/
def dut : Cell → Finset Duty
  | none => Finset.univ
  | some (.inl _) => {0}
  | some (.inr (_, _, o)) => if o = 0 then ∅ else {0}

/-- How many units each duty of a semaphore pays. -/
def amt : Cell → ℕ
  | none => 1
  | some (.inl i) => loadN i
  | some (.inr _) => N8

theorem amt_pos : ∀ k, 0 < amt k
  | none => Nat.one_pos
  | some (.inl i) => loadN_pos i
  | some (.inr _) => N8_pos

section Payloads

variable (m : (ℓ : Loc nD τ sig) → Buf (Elt F) ℓ)

/-- The share of the reduced rows that is lent for the copy over distance `o`. -/
def lent (o : Fin 16) : PosShare TreeShare := Transfers.dealOf fullShare Finset.univ o

/-- A device's greeting to `c` brings the buffers of it that `c` writes: the landing slots for the distance from
    `c`, and `c`'s rows among the gathered ones. -/
def barPay (c : Dev nD) (r : Fin 15) : sProp 𝕄 :=
  bigSep Finset.univ fun l : Fin 3 => iprop(avail (peer c (Fin.rev r)) (slotM l (off (Fin.rev r))) ∗ avail (peer c (Fin.rev r)) (agM l c))

/-- What a load of a layer's first weights hands back: the source and the buffer, both holding the weights; -/
def winPay (l : Fin 3) (c : Dev nD) : sProp 𝕄 :=
  iprop(has c (B₀.win l) fullShare (winV m l c) ∗ has c (winLayer B₀.wins l) fullShare (winV m l c))
/-- of its second weights; -/
def woutPay (l : Fin 3) (c : Dev nD) : sProp 𝕄 :=
  iprop(has c (B₀.wout l) fullShare (woutV m l c) ∗ has c (woutLayer B₀.wouts l) fullShare (woutV m l c))
/-- and of the input. -/
def xPay (c : Dev nD) : sProp 𝕄 := iprop(has c B₀.x fullShare (x0 m c) ∗ has c B₀.xv fullShare (x0 m c))

/-- A load brings its source back and the copy of it. -/
def loadPay (c : Dev nD) : Fin 7 → sProp 𝕄 :=
  ![xPay m c, winPay m 0 c, woutPay m 0 c, winPay m 1 c, woutPay m 1 c, winPay m 2 c, woutPay m 2 c]

/-- A copy of eight rows: at the sender its source back, at the receiver the rows of the device the distance before. -/
def slotPay (c : Dev nD) (l : Fin 3) (o : Fin 16) : Fin 4 → sProp 𝕄 :=
  ![avail c (mineM (c + o)), has c (slotM l o) fullShare (rowsOf (part m l (c - o)) c),
    has c B₀.red (lent o) (red m l c), has c (agM l (c - o)) fullShare (red m l (c - o))]

/-- What each duty of a semaphore hands over. -/
def pay (c : Dev nD) : Cell → Duty → sProp 𝕄
  | none, r => barPay c r
  | some (.inl i), _ => loadPay m c i
  | some (.inr (f, l, o)), _ => slotPay m c l o f

instance barPay_storable (c : Dev nD) (r : Fin 15) : BI.Storable (upEmb : UEmb _ 𝕄) (barPay (F := F) c r) := by
  unfold barPay; infer_instance

instance loadPay_storable (c : Dev nD) (i : Fin 7) : BI.Storable (upEmb : UEmb _ 𝕄) (loadPay m c i) := by
  unfold loadPay xPay winPay woutPay
  fin_cases i <;> (dsimp; infer_instance)

instance slotPay_storable (c : Dev nD) (l : Fin 3) (o : Fin 16) (f : Fin 4) : BI.Storable (upEmb : UEmb _ 𝕄) (slotPay m c l o f) := by
  unfold slotPay
  fin_cases f <;> (dsimp; infer_instance)

instance pay_storable (c : Dev nD) (k : Cell) (d : Duty) : BI.Storable (upEmb : UEmb _ 𝕄) (pay m c k d) := by
  rcases k with _ | i | ⟨f, l, o⟩ <;> (unfold pay; infer_instance)

/-- The schedule: one round. -/
def Rd : Rounds.Schedule (GSem nD τ sig) Duty 𝕄 where
  duties g r := if r = 0 ∧ g.1.2 = .tc then (match decode g.2 with | some k => dut k | none => ∅) else ∅
  unitless _ := False
  amount g _ _ := match decode g.2 with | some k => amt k | none => 1
  payload g _ d := match decode g.2 with | some k => pay m g.1.1 k d | none => iprop(emp)
  amount_pos g _ _ _ := by
    split
    · exact amt_pos _
    · exact Nat.one_pos

instance Rd_storable (g : GSem nD τ sig) (r : ℕ) (d : Duty) : BI.Storable (upEmb : UEmb _ 𝕄) ((Rd m).payload g r d) := by
  show BI.Storable upEmb (match decode g.2 with | some k => pay m g.1.1 k d | none => iprop(emp))
  split <;> infer_instance

/-- The schedule read at a semaphore of the protocol: its duties, -/
theorem Rd_duties (c : Dev nD) (k : Cell) : (Rd m).duties (kcell (c, k)) 0 = dut k := by
  dsimp only [Rd]
  rw [if_pos ⟨rfl, rfl⟩, decode_semOf]

/-- none after the first round; -/
theorem Rd_later (g : GSem nD τ sig) (r : ℕ) (hr : 1 ≤ r) : (Rd m).duties g r = ∅ := by
  dsimp only [Rd]
  rw [if_neg fun h => by omega]

/-- their amounts; -/
theorem Rd_amount (c : Dev nD) (k : Cell) (d : Duty) : (Rd m).amount (kcell (c, k)) 0 d = amt k := by
  show (match decode (semOf k) with | some k => amt k | none => 1) = _
  rw [decode_semOf]

/-- what they hand over; -/
theorem Rd_payload (c : Dev nD) (k : Cell) (d : Duty) : (Rd m).payload (kcell (c, k)) 0 d = pay m c k d := by
  show (match decode (semOf k) with | some k => pay m c k d | none => iprop(emp)) = _
  rw [decode_semOf]

/-- and the sum that a wait for all of them takes. -/
theorem Rd_expect (c : Dev nD) (k : Cell) : (Rd m).expect (kcell (c, k)) 0 = (dut k).card * amt k := by
  unfold Schedule.expect Schedule.amountOf
  rw [Rd_duties, Finset.sum_congr rfl fun d _ => Rd_amount m c k d, Finset.sum_const, smul_eq_mul]

theorem Rd_rest (c : Dev nD) (k : Cell) :
    bigSep ((Rd m).duties (kcell (c, k)) 0 \ ∅) (fun d => (Rd m).payload (kcell (c, k)) 0 d) = bigSep (dut k) fun d => pay m c k d := by
  rw [Finset.sdiff_empty, Rd_duties]
  exact bigSep_congr fun d _ => Rd_payload m c k d

end Payloads

/-! ## What is owed, and the levels -/

abbrev Owed := CellTallies nD τ sig Unit

/-- What device `c` still owes of its greetings, and of the rows it scatters and shares in layer `l`. -/
def oBar (c : Dev nD) (rs : List (Fin 15)) : Owed := (rs.map fun r => (tallyAt (kcell (peer c r, bar)) () 1 : Owed)).sum
def oSlot (f : Fin 4) (l : Fin 3) (c : Dev nD) (rs : List (Fin 15)) : Owed :=
  (rs.map fun r => (tallyAt (kcell (peer c r, slot f l (off r))) () N8 : Owed)).sum
/-- What device `c` owes in the layers `ls`; -/
def oLayers (c : Dev nD) (ls : List (Fin 3)) : Owed := (ls.map fun l => oSlot 1 l c peers + oSlot 3 l c peers).sum

def layers : List (Fin 3) := [0, 1, 2]

/-- and at the start. -/
def O₀ (c : Dev nD) : Owed := oBar c peers + oLayers c layers

/-- Levels stand on the TensorCores' semaphores, -/
def L (g : GSem nD τ sig) : Finset Unit := if g.1.2 = .tc then {()} else ∅

/-- The level of a semaphore: greetings below received rows, each layer's below the next's; loads and sends lowest. -/
def lvOf : Cell → ℕ
  | none => 1
  | some (.inl _) => 0
  | some (.inr (f, l, _)) => if f = 1 then 2 + 2 * l.val else if f = 3 then 3 + 2 * l.val else 0

/-- a semaphore's by what it is. -/
def lv (g : GSem nD τ sig) (_ : Unit) : ℕ := match decode g.2 with | some k => lvOf k | none => 0

theorem lv_kcell (c : Dev nD) (k : Cell) (u : Unit) : lv (kcell (c, k)) u = lvOf k := by
  show (match decode (semOf k) with | some k => lvOf k | none => 0) = _
  rw [decode_semOf]

theorem L_of_ne (g : GSem nD τ sig) (h : g.1.2 ≠ .tc) : L g = ∅ := if_neg h
theorem L_tc (g : GSem nD τ sig) (h : g.1.2 = .tc) : L g = {()} := if_pos h

/-- Everything owed lies above level `v`. -/
def Above (v : ℕ) (O : Owed) : Prop := ∀ g u, 0 < O g u → g.1.2 = .tc ∧ v < lv g u

/-- Nothing owed is above every level; -/
theorem Above.zero (v : ℕ) : Above v 0 := fun _ _ h => absurd h (Nat.lt_irrefl 0)

/-- so are two sums that are; -/
theorem Above.add {v : ℕ} {O O' : Owed} (h : Above v O) (h' : Above v O') : Above v (O + O') := fun g u hg => by
  rw [Pi.add_apply, Finsupp.add_apply] at hg
  by_cases ho : 0 < O g u
  · exact h g u ho
  · exact h' g u (by omega)

/-- one semaphore's units are above what is below its level; -/
theorem Above.tally {v : ℕ} (c : Dev nD) (k : Cell) (n : ℕ) (h : v < lvOf k) : Above v (tallyAt (kcell (c, k)) () n) := fun g u hg => by
  rw [tallyAt_apply] at hg
  by_cases e : g = kcell (c, k) ∧ u = ()
  · rw [e.1, lv_kcell]; exact ⟨rfl, h⟩
  · rw [if_neg e] at hg; exact absurd hg (Nat.lt_irrefl 0)

theorem Above.sum {v : ℕ} {α : Type} (f : α → Owed) (l : List α) (h : ∀ a ∈ l, Above v (f a)) : Above v (l.map f).sum := by
  induction l with
  | nil => exact Above.zero v
  | cons a rest ih =>
    rw [List.map_cons, List.sum_cons]
    exact (h a List.mem_cons_self).add (ih fun b hb => h b (List.mem_cons_of_mem _ hb))

/-- and what is above a level is above a lower one. -/
theorem Above.mono {v v' : ℕ} (hv : v' ≤ v) {O : Owed} (h : Above v O) : Above v' O :=
  fun g u hg => ⟨(h g u hg).1, lt_of_le_of_lt hv (h g u hg).2⟩

/-- A loop's debts are above what is below the level of each of its semaphores. -/
theorem above_slot {v : ℕ} (f : Fin 4) (l : Fin 3) (c : Dev nD) (rs : List (Fin 15)) (h : ∀ o, v < lvOf (slot f l o)) :
    Above v (oSlot f l c rs) := Above.sum _ _ fun _ _ => Above.tally _ _ _ (h _)

/-- The rows of later layers lie above those of this. -/
theorem above_layers {v : ℕ} (c : Dev nD) (ls : List (Fin 3)) (h : ∀ l ∈ ls, v < 2 + 2 * l.val) : Above v (oLayers c ls) :=
  Above.sum _ _ fun l hl => (above_slot 1 l c peers fun _ => h l hl).add (above_slot 3 l c peers fun _ => by
    have := h l hl; show v < 3 + 2 * l.val; omega)

/-- All that a device owes at the start is above the level of loads and sends. -/
theorem above_start (c : Dev nD) : Above 0 (O₀ c) :=
  (Above.sum _ _ fun _ _ => Above.tally _ _ _ (by decide)).add (above_layers c layers fun l _ => by omega)

/-- The levels, as every device knows them. -/
def levels : sProp 𝕄 := levAts L lv

instance levels_persistent : BI.Persistent (levels (F := F)) := by unfold levels; infer_instance

/-- A device may wait on a semaphore below all it owes. -/
theorem mayWait (c : Dev nD) (sm : SemLoc sig) (O : Owed) (v : ℕ) (hv : lv ((c : Thread nD τ), sm) () ≤ v) (h : Above v O) :
    levels (F := F) ⊢ MayWait (c : Thread nD τ) sm () O := by
  unfold levels
  exact MayOwe.of_cut (L := L) (lev := lv) v
    (fun p hp => by rw [Finset.mem_singleton.mp hp, L_tc _ rfl]; exact Finset.mem_singleton_self _)
    (fun g u hg => by rw [L_tc g (h g u hg).1]; exact Finset.mem_singleton_self _)
    (fun p hp => by rw [Finset.mem_singleton.mp hp]; exact hv)
    (fun g u hg => (h g u hg).2)

end Cert.KernelIdeal.Mlp

end
-- ==== Proof.Rules.lean ====
/-
  The rules of the protocol's operations: a load's copy, a copy to a peer, a greeting, and the waits.
-/
module

public import proofs.«01_k».proof.Proof.Protocol

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-- Of a semaphore: its invariant, and that its one round is open; -/
def known (p : Dev nD × Cell) : sProp 𝕄 := iprop(cellInv ER (Rd m) (K p) (kcell p) ∗ reached ER (kcell p) 0)
/-- of all of them, with the levels. -/
def records : sProp 𝕄 := iprop((bigSep Finset.univ fun p => known m K p) ∗ levels)

instance known_persistent (p : Dev nD × Cell) : BI.Persistent (known m K p) := by unfold known; infer_instance
instance records_persistent : BI.Persistent (records m K) := by unfold records; infer_instance

/-- The records hold what is known of each semaphore, -/
theorem records_known (p : Dev nD × Cell) : records m K ⊢ known m K p := by
  have h : (bigSep Finset.univ fun p => known m K p) ⊢ known m K p := bigSep_elim (Finset.mem_univ p)
  unfold records
  iintro ⟨H, -⟩
  iapply h; iexact H

/-- and the levels. -/
theorem records_levels : records m K ⊢ levels (F := F) := by
  unfold records
  iintro ⟨-, H⟩; iexact H

/-- What device `c` owes, whatever it has waited for. -/
def ow (c : Dev nD) (O : Owed) : sProp 𝕄 := iprop(∃ W, owes (c : Thread nD τ) O W)

/-- The right to pay duty `d` of a semaphore; a semaphore still to be waited on; what a copy under way credits it. -/
abbrev tok (p : Dev nD × Cell) (d : Duty) : sProp 𝕄 := dutyTok ER (kcell p) 0 d
abbrev at0 (c : Dev nD) (k : Cell) : sProp 𝕄 := atPos ER (kcell (c, k)) 0 ∅ 0
abbrev due (c : Dev nD) (k : Cell) (n : ℕ) : sProp 𝕄 := cred (tallyAt (kcell (c, k)) () n)

/-- A load sees what the buffer holds. -/
theorem has_read (c : Dev nD) {sp : Space} {s : Shape} {e : EltTy} (v : Memref sig .tc sp s e) (q : PosShare TreeShare)
    {f : Buf (Elt F) (v.view.loc (c : Thread nD τ))} {X : s.Idx → Elt F e} (hf : v.view.read (Elt F) f = X) :
    (v.view.loc (c : Thread nD τ) ↦[v.view.set]{q} f : sProp 𝕄) ⊢ has c v q X := by
  subst hf; exact owns_intro (c : Thread nD τ) v q f

/-- A store leaves what it stored. -/
theorem has_written (c : Dev nD) {sp : Space} {s : Shape} {e : EltTy} (v : Memref sig .tc sp s e)
    {f : Buf (Elt F) (v.view.loc (c : Thread nD τ))} {w X : s.Idx → Elt F e} (hw : w = X) :
    (v.view.loc (c : Thread nD τ) ↦[v.view.set]{fullShare} (v.view.write (Elt F) f w Finset.univ) : sProp 𝕄) ⊢ has c v fullShare X :=
  has_read c v fullShare ((View.read_write_univ f w).trans hw)

/-- A copy on the device itself. -/
theorem runs_copy (c : Dev nD) (o : Own) {sp sp' : Space} {s : Shape} {e : EltTy} (src : Memref sig .tc sp s e)
    (dst : Memref sig .tc sp' s e) (sm : DmaSem sig) (hsm : SemLoc.dma sm = semOf (some o))
    {hsrc : src.view.WordExact} {hdst : dst.view.WordExact} {hsem : DmaTarget.Typed (nD := nD) (τ := τ) (p := Proc.tc) sp (.dma sm) (.here dst)}
    (q : PosShare TreeShare) (X : s.Idx → Elt F e) (hd : (0 : Duty) ∈ dut (some o)) (hN : dst.view.dmaCredit = amt (some o))
    (hpay : iprop(has c src q X ∗ has c dst fullShare X) ⊢ pay m c (some o) 0) :
    iprop(records m K ∗ has c src q X ∗ avail c dst ∗ tok (c, some o) 0)
      ⊢ runs c (Prog.lift (.enqueueDma src (.here dst) (.dma sm) hsrc hdst hsem)) fun _ => due c (some o) (amt (some o)) := by
  obtain rfl : ownSem o = sm := by injection hsm.symm
  unfold runs Prog.lift
  iintro ⟨#Hr, Hs, Hd, Ht⟩
  ihave Hk := (records_known m K (c, some o)) $$ Hr
  unfold known
  icases Hk with ⟨#HI, #HR⟩
  ihave Hd := (avail_raw c dst) $$ Hd
  icases Hd with ⟨%fd, Hd⟩
  unfold has owns
  icases Hs with ⟨%fs, %hfs, Hs⟩
  iapply (Rounds.wp_copy_pointsTo 𝒱₀ ER (Rd m) (c : Thread nD τ) none (sem := SemLoc.dma (ownSem o)) (κ := K (c, some o)) (r := 0) (d := 0)
    ((congrArg (fun t => (0 : Duty) ∈ t) (Rd_duties m c (some o))).mpr hd) () (amt (some o)) ((View.amount_dma _ _).trans hN) (Rd_amount m c (some o) 0) (fd := fd) (fs := fs) (q := q) (by
      refine (BIBase.Entails.trans ?_ hpay).trans (Entails.of_eq (Rd_payload m c (some o) 0).symm)
      iintro ⟨H1, H2⟩
      isplitl [H2]
      · iapply (has_read c src q hfs); iexact H2
      · iapply (has_written c dst hfs); iexact H1)) $$ [Hs Hd Ht]
  · isplitr; · iexact HI
    isplitl [Hs]; · iexact Hs
    isplitl [Hd]; · iexact Hd
    isplitl [Ht]; · iexact Ht
    iexact HR
  iintro Hc
  rw [wp_ret]; imodintro
  iexact Hc

/-- A copy to a peer. -/
theorem runs_send (c p : Dev nD) (oS oR : Own) {sp sp' : Space} {s : Shape} {e : EltTy} (src : Memref sig .tc sp s e)
    (dst : Memref sig .tc sp' s e) (sS sR : DmaSem sig) (hS : SemLoc.dma sS = semOf (some oS)) (hR : SemLoc.dma sR = semOf (some oR))
    {hsc : dst.view.ref.isScScratch = false}
    {hsrc : src.view.WordExact} {hdst : dst.view.WordExact}
    {hsem : DmaTarget.Typed (nD := nD) (τ := τ) (p := Proc.tc) sp (.dma sR) (.remote (Dev.tc p) dst (.dma sS) hsc)}
    (q : PosShare TreeShare) (X : s.Idx → Elt F e) (hdS : (0 : Duty) ∈ dut (some oS)) (hdR : (0 : Duty) ∈ dut (some oR))
    (N : ℕ) (hN : dst.view.dmaCredit = N) (hNS : amt (some oS) = N) (hNR : amt (some oR) = N)
    (hpayS : has c src q X ⊢ pay m c (some oS) 0) (hpayR : has p dst fullShare X ⊢ pay m p (some oR) 0) (O : Owed) :
    iprop(records m K ∗ has c src q X ∗ avail p dst ∗ tok (c, some oS) 0 ∗ tok (p, some oR) 0
        ∗ ow c (tallyAt (kcell (p, some oR)) () N + O))
      ⊢ runs c (Prog.lift (.enqueueDma src (.remote (Dev.tc p) dst (.dma sS) hsc) (.dma sR) hsrc hdst hsem))
          fun _ => iprop(due c (some oS) N ∗ ow c O) := by
  obtain rfl : ownSem oS = sS := by injection hS.symm
  obtain rfl : ownSem oR = sR := by injection hR.symm
  unfold runs Prog.lift ow
  iintro ⟨#Hr, Hs, Hd, HtS, HtR, ⟨%W, HO⟩⟩
  ihave HkS := (records_known m K (c, some oS)) $$ Hr
  ihave HkR := (records_known m K (p, some oR)) $$ Hr
  unfold known
  icases HkS with ⟨#HIS, #HRS⟩
  icases HkR with ⟨#HIR, #HRR⟩
  ihave Hd := (avail_raw p dst) $$ Hd
  icases Hd with ⟨%fd, Hd⟩
  unfold has owns
  icases Hs with ⟨%fs, %hfs, Hs⟩
  iapply (Rounds.wp_send_pointsTo 𝒱₀ ER (Rd m) (c : Thread nD τ) none (sS := SemLoc.dma (ownSem oS)) (sem := SemLoc.dma (ownSem oR)) (κ₁ := K (c, some oS)) (κ₂ := K (p, some oR))
    (r₁ := 0) (r₂ := 0) (d₁ := 0) (d₂ := 0) (fs := fs) (fd := fd) (q := q)
    ((congrArg (fun t => (0 : Duty) ∈ t) (Rd_duties m c (some oS))).mpr hdS) ((congrArg (fun t => (0 : Duty) ∈ t) (Rd_duties m p (some oR))).mpr hdR) () () N ((View.amount_dma _ _).trans hN)
    ((Rd_amount m c (some oS) 0).trans hNS) ((Rd_amount m p (some oR) 0).trans hNR) O (add_comm _ _) (W := W)
    (by
      refine (BIBase.Entails.trans ?_ hpayS).trans (Entails.of_eq (Rd_payload m c (some oS) 0).symm)
      exact has_read c src q hfs)
    (by
      refine (BIBase.Entails.trans ?_ hpayR).trans (Entails.of_eq (Rd_payload m p (some oR) 0).symm)
      exact has_written p dst hfs)) $$ [Hs Hd HtS HtR HO]
  · isplitr; · iexact HIS
    isplitr; · iexact HIR
    isplitl [Hs]; · iexact Hs
    isplitl [Hd]; · iexact Hd
    isplitl [HO]; · iexact HO
    isplitl [HtS]; · iexact HtS
    isplitr; · iexact HRS
    isplitl [HtR]; · iexact HtR
    iexact HRR
  iintro ⟨Hc, HO⟩
  rw [wp_ret]; imodintro
  isplitl [Hc]; · iexact Hc
  iexists W; iexact HO

/-- A wait for a copy: its payload, and the semaphore done with. -/
theorem runs_wait (c : Dev nD) (o : Own) {sp sp' : Space} {s s' : Shape} {e e' : EltTy} (src : Memref sig .tc sp s e)
    (dst : Memref sig .tc sp' s' e') (sm : DmaSem sig) (hsm : SemLoc.dma sm = semOf (some o))
    {hsrc : src.view.WordExact} {hdst : dst.view.WordExact} (hd : dut (some o) = {0}) (hN : dst.view.dmaCredit = amt (some o))
    (O : Owed) (hO : Above (lvOf (some o)) O) :
    iprop(records m K ∗ due c (some o) (amt (some o)) ∗ at0 c (some o) ∗ ow c O)
      ⊢ runs c (Prog.lift (.waitDma2 sm src dst hsrc hdst))
          fun _ => iprop(pay m c (some o) 0 ∗ semVal (kcell (c, some o)) 0 ∗ ow c O) := by
  obtain rfl : ownSem o = sm := by injection hsm.symm
  have hw : records m K ⊢ MayWait (c : Thread nD τ) (SemLoc.dma (ownSem o)) () O :=
    (@records_levels F _ m K).trans (mayWait (F := F) c (SemLoc.dma (ownSem o)) O (lvOf (some o)) (le_of_eq (lv_kcell c (some o) ())) hO)
  have hr : (bigSep ((Rd m).duties ((c : Thread nD τ), SemLoc.dma (ownSem o)) 0 \ ∅)
      fun d => (Rd m).payload ((c : Thread nD τ), SemLoc.dma (ownSem o)) 0 d) ⊢ pay m c (some o) 0 :=
    Entails.of_eq ((Rd_rest m c (some o)).trans (by rw [hd, bigSep_singleton]))
  unfold runs Prog.lift ow
  iintro ⟨#Hr, Hc, Ha, ⟨%W, HO⟩⟩
  ihave Hk := (records_known m K (c, some o)) $$ Hr
  unfold known
  icases Hk with ⟨#HI, -⟩
  iapply (Rounds.wp_wait_rest_token 𝒱₀ ER (Rd m) (c : Thread nD τ) none (κ := K (c, some o))
      (wpE_waitDma2_eq 𝒱₀ (c : Thread nD τ) none Set.univ) (Set.mem_univ _) () (O := O) (W := W) (R := 0) (m := 0) (T := ∅)
      (by
        have h := Rd_expect m c (some o)
        rw [hd, Finset.card_singleton, one_mul] at h
        rw [Nat.zero_add, hN]; exact h.symm)) $$ [Hc HO Ha]
  · isplitr; · iexact HI
    isplitl [Hc]; · rw [hN]; iexact Hc
    isplitl [HO]; · iexact HO
    isplitr
    · iapply hw; iexact Hr
    iexact Ha
  iintro ⟨HO, Ha, -, Hp⟩
  ihave Hp := hr $$ Hp
  rw [wp_ret]
  imod (Rounds.cell_close ER (Rd m) (Set.mem_univ (K (c, some o))) (fun h => h) (R := 0 + 1) (fun r hr => Rd_later m _ r hr)) $$ [Ha] with Hz
  · isplitr; · iexact HI
    iexact Ha
  imodintro
  isplitl [Hp]; · iexact Hp
  isplitl [Hz]; · iexact Hz
  iexists _; iexact HO

/-- A semaphore nothing credits is done with at once. -/
theorem unused (c : Dev nD) (k : Cell) (hd : dut k = ∅) : iprop(records m K ∗ at0 c k) ⊢ |={Set.univ}=> semVal (kcell (c, k)) 0 := by
  iintro ⟨#Hr, Ha⟩
  ihave Hk := (records_known m K (c, k)) $$ Hr
  unfold known
  icases Hk with ⟨#HI, -⟩
  iapply (Rounds.cell_close ER (Rd m) (Set.mem_univ (K (c, k))) (fun h => h) (R := 0) (fun r _ => by
    rcases Nat.eq_zero_or_pos r with rfl | h
    · rw [Rd_duties]; exact hd
    · exact Rd_later m _ r h))
  isplitr; · iexact HI
  iexact Ha

/-- A greeting. -/
theorem runs_greet (c : Dev nD) (r : Fin 15) (O : Owed) :
    iprop(records m K ∗ tok (peer c r, bar) r ∗ barPay (peer c r) r ∗ ow c (tallyAt (kcell (peer c r, bar)) () 1 + O))
      ⊢ runs (F := F) c (greet c r) fun _ => ow c O := by
  have hp : barPay (F := F) (peer c r) r ⊢ (Rd m).payload ((peer c r : Thread nD τ), SemLoc.reg barSem) 0 r :=
    Entails.of_eq (Rd_payload m (peer c r) bar r).symm
  unfold runs greet semSignalWord ow
  iintro ⟨#Hr, Ht, Hp, ⟨%W, HO⟩⟩
  ihave Hk := (records_known m K (peer c r, bar)) $$ Hr
  unfold known
  icases Hk with ⟨#HI, #HR⟩
  iapply (Rounds.wp_signal 𝒱₀ ER (Rd m) (c : Thread nD τ) none (dst := (peer c r : Thread nD τ)) (κ := K (peer c r, bar))
      (d := r) (r := 0) ((congrArg (fun t => r ∈ t) (Rd_duties m (peer c r) bar)).mpr (Finset.mem_univ _))
      ((Rd_amount m (peer c r) bar r).trans (by decide)) () O (add_comm _ _)) $$ [HO Ht Hp]
  · isplitr; · iexact HI
    isplitl [HO]; · iexact HO
    isplitl [Ht]; · iexact Ht
    isplitl [Hp]
    · iapply hp; iexact Hp
    iexact HR
  iintro HO
  rw [wp_ret]; imodintro
  iexists W; iexact HO

/-- The wait for every greeting. -/
theorem runs_barrier (c : Dev nD) (O : Owed) (hO : Above 1 O) :
    iprop(records m K ∗ due c bar 15 ∗ at0 c bar ∗ ow c O)
      ⊢ runs (F := F) c (semWaitWord barSem 15#32)
          fun _ => iprop((bigSep Finset.univ fun r => barPay c r) ∗ semVal (kcell (c, bar)) 0 ∗ ow c O) := by
  have hw : records m K ⊢ MayWait (c : Thread nD τ) (SemLoc.reg barSem) () O :=
    (@records_levels F _ m K).trans (mayWait (F := F) c (SemLoc.reg barSem) O 1 (le_of_eq (lv_kcell c bar ())) hO)
  have hr : (bigSep ((Rd m).duties ((c : Thread nD τ), SemLoc.reg barSem) 0 \ ∅)
      fun d => (Rd m).payload ((c : Thread nD τ), SemLoc.reg barSem) 0 d) ⊢ bigSep Finset.univ fun r => barPay c r :=
    Entails.of_eq (Rd_rest m c bar)
  unfold runs semWaitWord ow
  iintro ⟨#Hr, Hc, Ha, ⟨%W, HO⟩⟩
  ihave Hk := (records_known m K (c, bar)) $$ Hr
  unfold known
  icases Hk with ⟨#HI, -⟩
  iapply (Rounds.wp_wait_rest_token 𝒱₀ ER (Rd m) (c : Thread nD τ) none (κ := K (c, bar))
      (wpE_semWait_eq 𝒱₀ (c : Thread nD τ) none Set.univ) (Set.mem_univ _) () (O := O) (W := W) (R := 0) (m := 0) (T := ∅)
      (by
        have h := Rd_expect m c bar
        exact h.symm)) $$ [Hc HO Ha]
  · isplitr; · iexact HI
    isplitl [Hc]; · iexact Hc
    isplitl [HO]; · iexact HO
    isplitr
    · iapply hw; iexact Hr
    iexact Ha
  iintro ⟨HO, Ha, -, Hp⟩
  ihave Hp := hr $$ Hp
  rw [wp_ret]
  imod (Rounds.cell_close ER (Rd m) (Set.mem_univ (K (c, bar))) (fun h => h) (R := 0 + 1) (fun r hr => Rd_later m _ r hr)) $$ [Ha] with Hz
  · isplitr; · iexact HI
    iexact Ha
  imodintro
  isplitl [Hp]; · iexact Hp
  isplitl [Hz]; · iexact Hz
  iexists _; iexact HO

end Cert.KernelIdeal.Mlp

end
-- ==== Proof.Steps.lean ====
/-
  The steps of a layer's exchange: each copy and each wait at a device `c`, a layer `l` and a peer `r`, and the
  loops over the peers.
-/
module

public import proofs.«01_k».proof.Proof.Rules

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Over the peers -/

/-- `Φ` at each peer. -/
abbrev each (Φ : Fin 15 → sProp 𝕄) : sProp 𝕄 := bigSep Finset.univ Φ

theorem each_list (Φ : Fin 15 → sProp 𝕄) : each Φ = bigSepL peers Φ :=
  bigSep_univ_eq_bigSepL peers (by decide +kernel) (by decide +kernel) Φ

theorem each_sep (Φ Ψ : Fin 15 → sProp 𝕄) : each (fun r => iprop(Φ r ∗ Ψ r)) = iprop(each Φ ∗ each Ψ) := bigSep_sep' _ _ _

theorem bigSepL_of_map {α β : Type} (g : α → β) (l : List α) (Φ : β → sProp 𝕄) : bigSepL (l.map g) Φ = bigSepL l fun a => Φ (g a) := by
  induction l with
  | nil => rfl
  | cons a rest ih => rw [List.map_cons, sepL_cons, sepL_cons, ih]

/-- Sixteen of a kind, by distance; by the peer at that distance; and by the device that distance before. -/
theorem by_distance (Φ : Fin 16 → sProp 𝕄) : bigSep Finset.univ Φ = iprop(Φ 0 ∗ each fun r => Φ (off r)) := by
  rw [bigSep_univ_eq_bigSepL (0 :: peers.map off) (by decide +kernel) (by decide +kernel) Φ, sepL_cons, bigSepL_of_map, each_list]

theorem peers_to : ∀ c : Fin 16, Finset.univ = (c :: peers.map (peer c)).toFinset ∧ (c :: peers.map (peer c)).Nodup := by
  decide +kernel

theorem peers_from : ∀ c : Fin 16, Finset.univ = (c :: peers.map (fun r => c - off r)).toFinset ∧ (c :: peers.map (fun r => c - off r)).Nodup := by
  decide +kernel

/-- All devices are this one and its peers, -/
theorem by_peer (c : Fin 16) (Φ : Fin 16 → sProp 𝕄) : bigSep Finset.univ Φ = iprop(Φ c ∗ each fun r => Φ (peer c r)) := by
  rw [bigSep_univ_eq_bigSepL _ (peers_to c).1 (peers_to c).2 Φ, sepL_cons, bigSepL_of_map, each_list]

/-- or this one and those that send to it. -/
theorem by_source (c : Fin 16) (Φ : Fin 16 → sProp 𝕄) : bigSep Finset.univ Φ = iprop(Φ c ∗ each fun r => Φ (c - off r)) := by
  rw [bigSep_univ_eq_bigSepL _ (peers_from c).1 (peers_from c).2 Φ, sepL_cons, bigSepL_of_map, each_list]

/-- A loop over the peers: each trip uses its own part and leaves its own part, and an invariant goes along; -/
theorem runs_peers {c : Dev nD} (f : Fin 15 → TProg F PUnit) (P Q : Fin 15 → sProp 𝕄) (I : List (Fin 15) → sProp 𝕄)
    (step : ∀ r rest, iprop(P r ∗ I (r :: rest)) ⊢ runs c (f r) fun _ => iprop(Q r ∗ I rest)) :
    iprop(each P ∗ I peers) ⊢ runs c (forEach peers f) fun _ => iprop(each Q ∗ I []) := by
  rw [each_list, each_list]; exact runs_forEach f P Q I step peers

/-- the same with a value carried from trip to trip. -/
theorem runs_peers_fold {c : Dev nD} {β : Type} (f : β → Fin 15 → TProg F β) (g : β → Fin 15 → β) (P Q : Fin 15 → sProp 𝕄)
    (I : List (Fin 15) → sProp 𝕄)
    (step : ∀ b r rest, iprop(P r ∗ I (r :: rest)) ⊢ runs c (f b r) fun b' => iprop(⌜b' = g b r⌝ ∗ Q r ∗ I rest)) (b : β) :
    iprop(each P ∗ I peers) ⊢ runs c (foldEach peers b f) fun b' => iprop(⌜b' = peers.foldl g b⌝ ∗ each Q ∗ I []) := by
  rw [each_list, each_list]; exact runs_foldEach f g P Q I step peers b

/-- The device that lies as far before the peer is this one. -/
theorem peer_sub : ∀ (c : Dev nD) (r : Fin 15), peer c r - off r = c := by decide +kernel

theorem off_ne : ∀ r : Fin 15, off r ≠ 0 := by decide +kernel

theorem dut_slot (f : Fin 4) (l : Fin 3) (r : Fin 15) : dut (slot f l (off r)) = {0} := if_neg (off_ne r)

theorem mem_dut_slot (f : Fin 4) (l : Fin 3) (r : Fin 15) : (0 : Duty) ∈ dut (slot f l (off r)) := by
  rw [dut_slot]; exact Finset.mem_singleton_self _

/-- A trip pays off one semaphore of what its loop owes, -/
theorem oSlot_cons (f : Fin 4) (l : Fin 3) (c : Dev nD) (r : Fin 15) (rs : List (Fin 15)) (O : Owed) :
    oSlot f l c (r :: rs) + O = tallyAt (kcell (peer c r, slot f l (off r))) () N8 + (oSlot f l c rs + O) := by
  unfold oSlot; rw [List.map_cons, List.sum_cons, add_assoc]

/-- and after the loop nothing of it is owed. -/
theorem oSlot_nil (f : Fin 4) (l : Fin 3) (c : Dev nD) (O : Owed) : oSlot f l c [] + O = O := zero_add O

/-! ## Steps -/

variable (m : (ℓ : Loc nD τ sig) → Buf (Elt F) ℓ) (K : Dev nD × Cell → ℕ) (c : Dev nD) (l : Fin 3)

/-- What each step needs of the rest. -/
abbrev ctx (O : Owed) : sProp 𝕄 := iprop(records m K ∗ ow c O)

/-- Send a peer its rows of the partial product: they are lent to the copy, and the landing slot on the peer is filled. -/
theorem scatter_step (O : Owed) (r : Fin 15) (rest : List (Fin 15)) :
    iprop((has c (mineM (peer c r)) fullShare (rowsOf (part m l c) (peer c r)) ∗ avail (peer c r) (slotM l (off r))
          ∗ tok (c, slot 0 l (off r)) 0 ∗ tok (peer c r, slot 1 l (off r)) 0)
        ∗ ctx m K c (oSlot 1 l c (r :: rest) + O))
      ⊢ runs c (scatter B₀ c l r) fun _ => iprop(due c (slot 0 l (off r)) N8 ∗ ctx m K c (oSlot 1 l c rest + O)) := by
  rw [oSlot_cons, ← rowsFor_eq]
  iintro ⟨⟨Hs, Hd, H1, H2⟩, #Hr, HO⟩
  iapply (runs_then (runs_send m K c (peer c r) (.inr (0, l, off r)) (.inr (1, l, off r)) (rowsFor B₀.mine c r) (slotM l (off r))
    _ _ (rsSend_eq l r) (rsRecv_eq l r) fullShare (rowsOf (part m l c) (peer c r)) (mem_dut_slot 0 l r) (mem_dut_slot 1 l r) N8
    rfl rfl rfl
    (by
      rw [rowsFor_eq]
      refine (avail_of c _ _).trans (Entails.of_eq ?_)
      show avail c (mineM (peer c r)) = avail c (mineM (c + off r))
      rw [peer_off])
    (by
      refine Entails.of_eq ?_
      show _ = has (peer c r) (slotM l (off r)) fullShare (rowsOf (part m l (peer c r - off r)) (peer c r))
      rw [peer_sub])
    (oSlot 1 l c rest + O))) $$ [Hs Hd H1 H2 HO]
  · isplitr; · iexact Hr
    isplitl [Hs]; · iexact Hs
    isplitl [Hd]; · iexact Hd
    isplitl [H1]; · iexact H1
    isplitl [H2]; · iexact H2
    iexact HO
  iintro %_ ⟨Hc, HO⟩
  isplitl [Hc]; · iexact Hc
  isplitr; · iexact Hr
  iexact HO

/-- Send a peer the reduced rows: a share of them is lent to the copy, and the place on the peer is filled. -/
theorem share_step (O : Owed) (r : Fin 15) (rest : List (Fin 15)) :
    iprop((has c B₀.red (lent (off r)) (red m l c) ∗ avail (peer c r) (agM l c)
          ∗ tok (c, slot 2 l (off r)) 0 ∗ tok (peer c r, slot 3 l (off r)) 0)
        ∗ ctx m K c (oSlot 3 l c (r :: rest) + O))
      ⊢ runs c (share B₀ c l r) fun _ => iprop(due c (slot 2 l (off r)) N8 ∗ ctx m K c (oSlot 3 l c rest + O)) := by
  rw [oSlot_cons, ← ownRows_eq]
  iintro ⟨⟨Hs, Hd, H1, H2⟩, #Hr, HO⟩
  iapply (runs_then (runs_send m K c (peer c r) (.inr (2, l, off r)) (.inr (3, l, off r)) B₀.red (ownRows B₀.ag l c)
    _ _ (agSend_eq l r) (agRecv_eq l r) (lent (off r)) (red m l c) (mem_dut_slot 2 l r) (mem_dut_slot 3 l r) N8
    rfl rfl rfl (BI.Entails.refl _)
    (by
      refine Entails.of_eq ?_
      show _ = has (peer c r) (agM l (peer c r - off r)) fullShare (red m l (peer c r - off r))
      rw [peer_sub, ownRows_eq])
    (oSlot 3 l c rest + O))) $$ [Hs Hd H1 H2 HO]
  · isplitr; · iexact Hr
    isplitl [Hs]; · iexact Hs
    isplitl [Hd]; · iexact Hd
    isplitl [H1]; · iexact H1
    isplitl [H2]; · iexact H2
    iexact HO
  iintro %_ ⟨Hc, HO⟩
  isplitl [Hc]; · iexact Hc
  isplitr; · iexact Hr
  iexact HO

/-- The wait on one of the semaphores of the exchange. -/
theorem slot_wait (f : Fin 4) (r : Fin 15) {s s' : Shape} {sp sp' : Space} {e e' : EltTy} (src : Memref sig .tc sp s e)
    (dst : Memref sig .tc sp' s' e') (sm : DmaSem sig)
    (hsm : SemLoc.dma sm = semOf (slot f l (off r))) {hsrc : src.view.WordExact} {hdst : dst.view.WordExact}
    (hN : dst.view.dmaCredit = N8) (O : Owed) (hO : Above (lvOf (slot f l (off r))) O) :
    iprop((at0 c (slot f l (off r)) ∗ due c (slot f l (off r)) N8) ∗ ctx m K c O)
      ⊢ runs c (Prog.lift (.waitDma2 sm src dst hsrc hdst))
          fun _ => iprop((slotPay m c l (off r) f ∗ semVal (kcell (c, slot f l (off r))) 0) ∗ ctx m K c O) := by
  iintro ⟨⟨Ha, Hc⟩, #Hr, HO⟩
  iapply (runs_then (runs_wait m K c (.inr (f, l, off r)) src dst sm hsm (dut_slot f l r) hN O hO)) $$ [Ha Hc HO]
  · isplitr; · iexact Hr
    isplitl [Hc]; · iexact Hc
    isplitl [Ha]; · iexact Ha
    iexact HO
  iintro %_ ⟨Hp, Hz, HO⟩
  isplitr [HO]
  · isplitl [Hp]
    · iapply (Entails.of_eq (show pay m c (slot f l (off r)) 0 = slotPay m c l (off r) f from rfl)); iexact Hp
    iexact Hz
  isplitr; · iexact Hr
  iexact HO

/-- A landing slot, as the load of it addresses it. -/
theorem landed_eq (o : Fin 16) :
    slotPay m c l o 1 = has c (B₀.rs.slice (rsRect (l, o)) (fun _ => rfl)) fullShare
      (shapeCast S1x1x8x128 (rowsOf (part m l (c - o)) c) (by decide +kernel)) :=
  has_squeeze c (B₀.rs.slice (rsRect (l, o)) (fun _ => rfl)) squeezes_S1x1x8x128_S8x128 fullShare
    shapeCasts_S1x1x8x128_S8x128 (show S8x128.ShapeCasts S1x1x8x128 by decide +kernel) (rowsOf (part m l (c - o)) c)

/-- Wait for the rows of one device and add them; the landing slot is this device's again. -/
theorem accumulate_step (O : Owed) (hO : Above (2 + 2 * l.val) O) (s : S8x128.Idx → Elt F .f32) (r : Fin 15) :
    iprop((at0 c (slot 1 l (off r)) ∗ due c (slot 1 l (off r)) N8) ∗ ctx m K c O)
      ⊢ runs c (accumulate B₀ l s r) fun s' => iprop(⌜s' = addRows (part m l) c s r⌝
          ∗ (avail c (slotM l (off r)) ∗ semVal (kcell (c, slot 1 l (off r))) 0) ∗ ctx m K c O) := by
  unfold accumulate
  rw [runs_bind]
  iintro H
  iapply (runs_then (slot_wait m K c l 1 r (landing B₀.rs l r) (landing B₀.rs l r) (slotSem B₀.rsRecv l r) (rsRecv_eq l r)
    (hsrc := View.wordExact_bits rfl) (hdst := View.wordExact_bits rfl) rfl O hO)) $$ H
  iintro %_ ⟨⟨Hp, Hz⟩, HI⟩
  rw [runs_bind]
  ihave Hp := (Entails.of_eq (landed_eq m c l (off r))) $$ Hp
  iapply (runs_then (runs_load c B₀.rs (rsRect (l, off r)) (fun _ => rfl) _ fullShare _)) $$ Hp
  iintro %v ⟨%hv, Hp⟩
  subst hv
  iapply (runs_pure c)
  isplitr; · ipureintro; rfl
  isplitr [HI]
  · isplitl [Hp]
    · iapply (Entails.of_eq (avail_squeeze c (B₀.rs.slice (rsRect (l, off r)) (fun _ => rfl)) squeezes_S1x1x8x128_S8x128).symm)
      iapply (avail_of c (B₀.rs.slice (rsRect (l, off r)) (fun _ => rfl)) _); iexact Hp
    iexact Hz
  iexact HI

/-- Keep the reduced rows, once to send from and once among the gathered ones. -/
theorem keep_step (s : S8x128.Idx → Elt F .f32) :
    iprop(avail c B₀.red ∗ avail c (agM l c)) ⊢ runs c (keep B₀ c l s) fun _ => iprop(has c B₀.red fullShare s ∗ has c (agM l c) fullShare s) := by
  unfold keep
  rw [runs_bind]
  conv => lhs; unfold avail
  iintro ⟨⟨%X, H1⟩, ⟨%Y, H2⟩⟩
  ihave H1 := (Entails.of_eq (has_full c B₀.red ![0, 0] (by decide) inb_S8x128_S8x128_0_0 fullShare X).symm) $$ H1
  iapply (runs_then (runs_load c B₀.red _ (fun _ => rfl) _ fullShare X)) $$ H1
  iintro %_ ⟨-, H1⟩
  rw [runs_bind]
  iapply (runs_then (runs_store c B₀.red _ (fun _ => rfl) _ _ _ X)) $$ H1
  iintro %_ H1
  ihave H1 := (Entails.of_eq (has_full c B₀.red ![0, 0] (by decide) inb_S8x128_S8x128_0_0 fullShare _)) $$ H1
  ihave H2 := (Entails.of_eq (has_squeeze c (B₀.ag.slice (agRect (l, c)) (fun _ => rfl)) squeezes_S1x8x128_S8x128 fullShare
    shapeCasts_S1x8x128_S8x128 shapeCasts_S8x128_S1x8x128 Y)) $$ H2
  rw [runs_bind]
  have e := slice_congr B₀.ag (ownOff_eq l c) (ownOff_inb l c) (ag_inb (l, c))
  have e' (Z : S1x8x128.Idx → Elt F .f32) : has c (B₀.ag.slice (agRect (l, c)) (fun _ => rfl)) fullShare Z
      = has c (B₀.ag.slice (Rect.unit (s := S3x128x128) (ownOff l c) S1x8x128.size (ownOff_inb l c)) (fun _ => rfl)) fullShare Z :=
    congrArg (fun M : Memref sig .tc .vmem S1x8x128 .f32 => has c M fullShare Z) e.symm
  ihave H2 := (Entails.of_eq (e' _)) $$ H2
  iapply (runs_then (runs_load c B₀.ag _ (fun _ => rfl) _ fullShare _)) $$ H2
  iintro %_ ⟨-, H2⟩
  iapply (runs_then (runs_store c B₀.ag _ (fun _ => rfl) _ _ _ _)) $$ H2
  iintro %_ H2
  isplitl [H1]
  · rw [show shapeCast S8x128 s shapeCasts_S8x128_S8x128 = s from by funext j; unfold shapeCast; rw [Shape.reshapeEquiv_self]]
    iexact H1
  iapply (Entails.of_eq (has_squeeze c (B₀.ag.slice (agRect (l, c)) (fun _ => rfl)) squeezes_S1x8x128_S8x128 fullShare
    shapeCasts_S1x8x128_S8x128 shapeCasts_S8x128_S1x8x128 s).symm)
  iapply (Entails.of_eq (e' _).symm); iexact H2

omit [FloatOps F] in
theorem hN3 (l : Fin 3) (c : Dev nD) : (ownRows B₀.ag l c).view.dmaCredit = N8 := rfl
theorem hN0 (c : Dev nD) (r : Fin 15) : (rowsFor B₀.mine c r).view.dmaCredit = N8 := rfl
theorem hN2 : B₀.red.view.dmaCredit = N8 := rfl

/-- Wait for one device's reduced rows. -/
theorem receive_step (O : Owed) (hO : Above (3 + 2 * l.val) O) (r : Fin 15) :
    iprop((at0 c (slot 3 l (off r)) ∗ due c (slot 3 l (off r)) N8) ∗ ctx m K c O)
      ⊢ runs c (receive B₀ c l r) fun _ => iprop((has c (agM l (c - off r)) fullShare (red m l (c - off r))
          ∗ semVal (kcell (c, slot 3 l (off r))) 0) ∗ ctx m K c O) :=
  slot_wait m K c l 3 r B₀.red (ownRows B₀.ag l c) (slotSem B₀.agRecv l r) (agRecv_eq l r) (hN3 l c) O hO

/-- Wait until a peer's rows have been sent; they come back. -/
theorem scattered_step (O : Owed) (hO : Above 0 O) (r : Fin 15) :
    iprop((at0 c (slot 0 l (off r)) ∗ due c (slot 0 l (off r)) N8) ∗ ctx m K c O)
      ⊢ runs c (scattered B₀ c l r) fun _ => iprop((avail c (mineM (c + off r)) ∗ semVal (kcell (c, slot 0 l (off r))) 0) ∗ ctx m K c O) :=
  slot_wait m K c l 0 r (landing B₀.rs l r) (rowsFor B₀.mine c r) (slotSem B₀.rsSend l r) (rsSend_eq l r) (hN0 c r) O hO

/-- Wait until the reduced rows have been sent to a peer; the share comes back. -/
theorem shared_step (O : Owed) (hO : Above 0 O) (r : Fin 15) :
    iprop((at0 c (slot 2 l (off r)) ∗ due c (slot 2 l (off r)) N8) ∗ ctx m K c O)
      ⊢ runs c (shared B₀ c l r) fun _ => iprop((has c B₀.red (lent (off r)) (red m l c) ∗ semVal (kcell (c, slot 2 l (off r))) 0)
          ∗ ctx m K c O) :=
  slot_wait m K c l 2 r (ownRows B₀.ag l c) B₀.red (slotSem B₀.agSend l r) (agSend_eq l r) hN2 O hO

/-- The reduced rows, dealt into sixteen shares and put together again. -/
theorem red_deal (X : S8x128.Idx → Elt F .f32) :
    has c B₀.red fullShare X = iprop(has c B₀.red (lent 0) X ∗ each fun r => has c B₀.red (lent (off r)) X) := by
  have h (q : PosShare TreeShare) : has c B₀.red q X = ((c : Thread nD τ).loc cc0_scratch4 ↦[Finset.univ]{q} X : sProp 𝕄) := by
    unfold has owns
    refine BI.equiv_iff.mp ⟨?_, ?_⟩
    · show iprop(∃ f, ⌜(View.whole cc0_scratch4).read (Elt F) f = X⌝ ∗ (View.whole cc0_scratch4).loc (c : Thread nD τ) ↦[(View.whole cc0_scratch4).set]{q} f) ⊢ _
      simp only [View.read_whole, View.set_whole]
      iintro ⟨%f, %hf, H⟩
      subst hf; iexact H
    · show _ ⊢ iprop(∃ f, ⌜(View.whole cc0_scratch4).read (Elt F) f = X⌝ ∗ (View.whole cc0_scratch4).loc (c : Thread nD τ) ↦[(View.whole cc0_scratch4).set]{q} f)
      simp only [View.read_whole, View.set_whole]
      iintro H
      iexists X; isplitr; · ipureintro; rfl
      iexact H
  rw [h, ← by_distance fun o => has c B₀.red (lent o) X, Transfers.pointsTo_deal (Finset.univ : Finset (Fin 16)) Finset.univ_nonempty]
  exact bigSep_congr fun o _ => (h (lent o)).symm

end Cert.KernelIdeal.Mlp

end
-- ==== Proof.Layer.lean ====
/-
  A layer: the partial product, and the exchange that sums the partial products over the devices.
-/
module

public import proofs.«01_k».proof.Proof.Steps

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ) (c : Dev nD) (l : Fin 3)

/-- Two families over the peers as one, -/
theorem each_two (A B : Fin 15 → sProp 𝕄) : iprop(each A ∗ each B) ⊢ each fun r => iprop(A r ∗ B r) := by
  rw [each_sep]

/-- four as one, -/
theorem each_four (A B C D : Fin 15 → sProp 𝕄) :
    iprop(each A ∗ each B ∗ each C ∗ each D) ⊢ each fun r => iprop(A r ∗ B r ∗ C r ∗ D r) := by
  rw [each_sep, each_sep, each_sep]

/-- and one as two again. -/
theorem each_apart (A B : Fin 15 → sProp 𝕄) : each (fun r => iprop(A r ∗ B r)) ⊢ iprop(each A ∗ each B) := by
  rw [each_sep]

/-- Send every peer its rows of the partial product. -/
theorem scatter_all (O : Owed) :
    iprop((each fun r => has c (mineM (peer c r)) fullShare (rowsOf (part m l c) (peer c r)))
        ∗ (each fun r => avail (peer c r) (slotM l (off r))) ∗ (each fun r => tok (c, slot 0 l (off r)) 0)
        ∗ (each fun r => tok (peer c r, slot 1 l (off r)) 0) ∗ ctx m K c (oSlot 1 l c peers + O))
      ⊢ runs c (forEach peers (scatter B₀ c l)) fun _ => iprop((each fun r => due c (slot 0 l (off r)) N8) ∗ ctx m K c O) := by
  iintro ⟨H1, H2, H3, H4, HI⟩
  ihave H := (each_four _ _ _ _) $$ [H1 H2 H3 H4]
  · isplitl [H1]; · iexact H1
    isplitl [H2]; · iexact H2
    isplitl [H3]; · iexact H3
    iexact H4
  iapply (runs_then (runs_peers (scatter B₀ c l) _ _ (fun rest => ctx m K c (oSlot 1 l c rest + O)) (scatter_step m K c l O))) $$ [H HI]
  · isplitl [H]; · iexact H
    iexact HI
  iintro %_ ⟨HQ, HI⟩
  isplitl [HQ]; · iexact HQ
  rw [oSlot_nil]; iexact HI

/-- Send every peer the reduced rows. -/
theorem share_all (O : Owed) :
    iprop((each fun r => has c B₀.red (lent (off r)) (red m l c)) ∗ (each fun r => avail (peer c r) (agM l c))
        ∗ (each fun r => tok (c, slot 2 l (off r)) 0) ∗ (each fun r => tok (peer c r, slot 3 l (off r)) 0)
        ∗ ctx m K c (oSlot 3 l c peers + O))
      ⊢ runs c (forEach peers (share B₀ c l)) fun _ => iprop((each fun r => due c (slot 2 l (off r)) N8) ∗ ctx m K c O) := by
  iintro ⟨H1, H2, H3, H4, HI⟩
  ihave H := (each_four _ _ _ _) $$ [H1 H2 H3 H4]
  · isplitl [H1]; · iexact H1
    isplitl [H2]; · iexact H2
    isplitl [H3]; · iexact H3
    iexact H4
  iapply (runs_then (runs_peers (share B₀ c l) _ _ (fun rest => ctx m K c (oSlot 3 l c rest + O)) (share_step m K c l O))) $$ [H HI]
  · isplitl [H]; · iexact H
    iexact HI
  iintro %_ ⟨HQ, HI⟩
  isplitl [HQ]; · iexact HQ
  rw [oSlot_nil]; iexact HI

/-- The semaphores `f` of a layer, for each peer: still to be waited on; a copy under way; done with. -/
abbrev at0s (f : Fin 4) : sProp 𝕄 := each fun r => at0 c (slot f l (off r))
abbrev dues (f : Fin 4) : sProp 𝕄 := each fun r => due c (slot f l (off r)) N8
abbrev zeros (f : Fin 4) : sProp 𝕄 := each fun r => semVal (kcell (c, slot f l (off r))) 0

/-- A loop of waits. -/
theorem wait_all (f : Fin 4) (p : Fin 15 → TProg F PUnit) (Q : Fin 15 → sProp 𝕄) (O : Owed)
    (step : ∀ r, iprop((at0 c (slot f l (off r)) ∗ due c (slot f l (off r)) N8) ∗ ctx m K c O)
      ⊢ runs c (p r) fun _ => iprop((Q r ∗ semVal (kcell (c, slot f l (off r))) 0) ∗ ctx m K c O)) :
    iprop(at0s c l f ∗ dues c l f ∗ ctx m K c O) ⊢ runs c (forEach peers p) fun _ => iprop(each Q ∗ zeros c l f ∗ ctx m K c O) := by
  iintro ⟨H1, H2, HI⟩
  ihave H := (each_two _ _) $$ [H1 H2]
  · isplitl [H1]; · iexact H1
    iexact H2
  iapply (runs_then (runs_peers p _ _ (fun _ => ctx m K c O) (fun r _ => step r))) $$ [H HI]
  · isplitl [H]; · iexact H
    iexact HI
  iintro %_ ⟨HQ, HI⟩
  ihave HQ := (each_apart _ _) $$ HQ
  icases HQ with ⟨HQ, Hz⟩
  isplitl [HQ]; · iexact HQ
  isplitl [Hz]; · iexact Hz
  iexact HI

/-- Receive every device's rows and add them: the reduced rows. -/
theorem accumulate_all (O : Owed) (hO : Above (2 + 2 * l.val) O) :
    iprop(at0s c l 1 ∗ dues c l 1 ∗ ctx m K c O)
      ⊢ runs c (foldEach peers (rowsOf (part m l c) c) (accumulate B₀ l)) fun s => iprop(⌜s = red m l c⌝
          ∗ (each fun r => avail c (slotM l (off r))) ∗ zeros c l 1 ∗ ctx m K c O) := by
  iintro ⟨H1, H2, HI⟩
  ihave H := (each_two _ _) $$ [H1 H2]
  · isplitl [H1]; · iexact H1
    iexact H2
  iapply (runs_then (runs_peers_fold (accumulate B₀ l) (addRows (part m l) c) _ _ (fun _ => ctx m K c O)
    (fun s r _ => accumulate_step m K c l O hO s r) (rowsOf (part m l c) c))) $$ [H HI]
  · isplitl [H]; · iexact H
    iexact HI
  iintro %s ⟨%hs, HQ, HI⟩
  ihave HQ := (each_apart _ _) $$ HQ
  icases HQ with ⟨HQ, Hz⟩
  isplitr; · ipureintro; exact hs
  isplitl [HQ]; · iexact HQ
  isplitl [Hz]; · iexact Hz
  iexact HI

/-- The load of the device's own rows of its partial product. -/
theorem own_load (X : S8x128.Idx → Elt F .f32) :
    has c (mineM c) fullShare X ⊢ runs c (Prog.lift (.load B₀.mine (Rect.unit (s := S128x128) (k0_off2 c) S8x128.size (k0_off2_inb c)).toLoadRect
      (View.loadsAt_vmem h_S8x128))) fun v => iprop(⌜v = X⌝ ∗ has c (mineM c) fullShare X) := by
  have e := slice_congr B₀.mine (k0_off2_eq c) (k0_off2_inb c) (mine_inb c)
  have e' : has c (mineM c) fullShare X
      = has c (B₀.mine.slice (Rect.unit (s := S128x128) (k0_off2 c) S8x128.size (k0_off2_inb c)) (fun _ => rfl)) fullShare X :=
    congrArg (fun M : Memref sig .tc .vmem S8x128 .f32 => has c M fullShare X) e.symm
  rw [e']
  exact runs_load c B₀.mine (Rect.unit (s := S128x128) (k0_off2 c) S8x128.size (k0_off2_inb c)) (fun _ => rfl) _ fullShare X

/-- Sixteen row blocks are the partial product's buffer again. -/
theorem mine_back : iprop(avail c (mineM c) ∗ each fun r => avail (F := F) c (mineM (c + off r))) ⊢ avail c B₀.mine := by
  have h : bigSep Finset.univ (fun d => avail (F := F) c (mineM d))
      = iprop(avail c (mineM c) ∗ each fun r => avail (F := F) c (mineM (c + off r))) := by
    rw [by_peer c fun d => avail (F := F) c (mineM d)]
    simp only [peer_off]
  rw [← h]; exact mine_join c

/-- What device `c` brings to layer `l`'s exchange besides its buffers: its rights, its waits, what is due to it. -/
def kit : sProp 𝕄 :=
  iprop((each fun r => tok (c, slot 0 l (off r)) 0) ∗ (each fun r => tok (peer c r, slot 1 l (off r)) 0)
    ∗ (each fun r => tok (c, slot 2 l (off r)) 0) ∗ (each fun r => tok (peer c r, slot 3 l (off r)) 0)
    ∗ at0s c l 0 ∗ at0s c l 1 ∗ at0s c l 2 ∗ at0s c l 3 ∗ dues c l 1 ∗ dues c l 3)

/-- The peers' buffers that `c` writes in layer `l`. -/
def supply : sProp 𝕄 :=
  iprop((each fun r => avail (peer c r) (slotM l (off r))) ∗ each fun r => avail (peer c r) (agM l c))

/-- What the exchange of layer `l` leaves: the layer's part of the landing and of the gathering buffer, and its
    semaphores done with. -/
def spent : sProp 𝕄 :=
  iprop((each fun r => avail c (slotM l (off r))) ∗ avail c (layM l) ∗ zeros c l 0 ∗ zeros c l 1 ∗ zeros c l 2 ∗ zeros c l 3)

/-- A layer's exchange: from the partial product to the next activations. -/
theorem exchange_run (O : Owed) (hO : Above (3 + 2 * l.val) O) :
    iprop(has c B₀.mine fullShare (part m l c) ∗ avail c B₀.red ∗ avail c (agM l c) ∗ supply c l ∗ kit c l
        ∗ ctx m K c (oSlot 1 l c peers + (oSlot 3 l c peers + O)))
      ⊢ runs c (exchange B₀ c l) fun v => iprop(⌜v = act m (l.val + 1) c⌝ ∗ avail c B₀.mine ∗ avail c B₀.red ∗ spent c l ∗ ctx m K c O) := by
  have h2 : Above (2 + 2 * l.val) (oSlot 3 l c peers + O) :=
    (above_slot 3 l c peers fun _ => by show _ < 3 + 2 * l.val; omega).add (hO.mono (by omega))
  have h0 : Above 0 O := hO.mono (by omega)
  unfold exchange supply kit spent
  rw [runs_bind]
  iintro ⟨Hm, Hred, Hag, ⟨Hs, Hg⟩, ⟨T0, T1, T2, T3, A0, A1, A2, A3, D1, D3⟩, HI⟩
  ihave Hm := ((mine_split c (part m l c)).trans (Entails.of_eq (by_peer c fun d => has c (mineM d) fullShare (rowsOf (part m l c) d)))) $$ Hm
  icases Hm with ⟨Hown, Hm⟩
  iapply (runs_then (scatter_all m K c l (oSlot 3 l c peers + O))) $$ [Hm Hs T0 T1 HI]
  · isplitl [Hm]; · iexact Hm
    isplitl [Hs]; · iexact Hs
    isplitl [T0]; · iexact T0
    isplitl [T1]; · iexact T1
    iexact HI
  iintro %_ ⟨D0, HI⟩
  rw [runs_bind]
  iapply (runs_then (own_load c (rowsOf (part m l c) c))) $$ Hown
  iintro %v ⟨%hv, Hown⟩
  subst hv
  rw [runs_bind]
  iapply (runs_then (accumulate_all m K c l (oSlot 3 l c peers + O) h2)) $$ [A1 D1 HI]
  · isplitl [A1]; · iexact A1
    isplitl [D1]; · iexact D1
    iexact HI
  iintro %s ⟨%hs, Hslots, Z1, HI⟩
  subst hs
  rw [runs_bind]
  iapply (runs_then (keep_step c l (red m l c))) $$ [Hred Hag]
  · isplitl [Hred]; · iexact Hred
    iexact Hag
  iintro %_ ⟨Hred, Hag⟩
  ihave Hred := (Entails.of_eq (red_deal c (red m l c))) $$ Hred
  icases Hred with ⟨Hred0, Hreds⟩
  rw [runs_bind]
  iapply (runs_then (share_all m K c l O)) $$ [Hreds Hg T2 T3 HI]
  · isplitl [Hreds]; · iexact Hreds
    isplitl [Hg]; · iexact Hg
    isplitl [T2]; · iexact T2
    isplitl [T3]; · iexact T3
    iexact HI
  iintro %_ ⟨D2, HI⟩
  rw [runs_bind]
  iapply (runs_then (wait_all m K c l 3 (receive B₀ c l) _ O (receive_step m K c l O hO))) $$ [A3 D3 HI]
  · isplitl [A3]; · iexact A3
    isplitl [D3]; · iexact D3
    iexact HI
  iintro %_ ⟨Hags, Z3, HI⟩
  ihave Hlay := ((Entails.of_eq (by_source c fun d => has c (agM l d) fullShare (red m l d)).symm).trans (layer_join c l (red m l))) $$ [Hag Hags]
  · isplitl [Hag]; · iexact Hag
    iexact Hags
  rw [runs_bind]
  iapply (runs_then (runs_load c B₀.ag (layRect l) (fun _ => rfl) _ fullShare _)) $$ Hlay
  iintro %v ⟨%hv, Hlay⟩
  subst hv
  rw [runs_bind]
  iapply (runs_then (wait_all m K c l 0 (scattered B₀ c l) _ O (scattered_step m K c l O h0))) $$ [A0 D0 HI]
  · isplitl [A0]; · iexact A0
    isplitl [D0]; · iexact D0
    iexact HI
  iintro %_ ⟨Hms, Z0, HI⟩
  rw [runs_bind]
  iapply (runs_then (wait_all m K c l 2 (shared B₀ c l) _ O (shared_step m K c l O h0))) $$ [A2 D2 HI]
  · isplitl [A2]; · iexact A2
    isplitl [D2]; · iexact D2
    iexact HI
  iintro %_ ⟨Hreds, Z2, HI⟩
  iapply (runs_pure c)
  isplitr
  · ipureintro
    rw [act_succ]
    exact cast_back _ _ _
  isplitl [Hown Hms]
  · iapply (mine_back c)
    isplitl [Hown]
    · iapply (avail_of c (mineM c) _); iexact Hown
    iexact Hms
  isplitl [Hred0 Hreds]
  · iapply (avail_of c B₀.red (red m l c))
    iapply (Entails.of_eq (red_deal c (red m l c)).symm)
    isplitl [Hred0]; · iexact Hred0
    iexact Hreds
  isplitr [HI]
  · isplitl [Hslots]; · iexact Hslots
    isplitl [Hlay]; · iapply (avail_of c (layM l) _); iexact Hlay
    isplitl [Z0]; · iexact Z0
    isplitl [Z1]; · iexact Z1
    isplitl [Z2]; · iexact Z2
    iexact Z3
  iexact HI

/-! ## The partial product -/

theorem loadPay_win : ∀ l : Fin 3, loadPay m c (winIx l) = winPay m l c := by
  intro l; fin_cases l <;> rfl
theorem loadPay_wout : ∀ l : Fin 3, loadPay m c (woutIx l) = woutPay m l c := by
  intro l; fin_cases l <;> rfl
theorem loadN_win (l : Fin 3) : loadN (winIx l) = NI := by fin_cases l <;> rfl
theorem loadN_wout (l : Fin 3) : loadN (woutIx l) = NO := by fin_cases l <;> rfl

/-- A load under way: its semaphore, what it will credit, and its wait. -/
abbrev loading (i : Fin 7) : sProp 𝕄 := iprop(at0 c (ld i) ∗ due c (ld i) (amt (ld i)))

/-- Wait for a load: the buffer holds what was loaded. -/
theorem load_wait (i : Fin 7) {sp sp' : Space} {s s' : Shape} {e e' : EltTy} (src : Memref sig .tc sp s e)
    (dst : Memref sig .tc sp' s' e') {hsrc : src.view.WordExact} {hdst : dst.view.WordExact}
    (hN : dst.view.dmaCredit = loadN i) (O : Owed) (hO : Above 0 O) :
    iprop(loading c i ∗ ctx m K c O)
      ⊢ runs c (Prog.lift (.waitDma2 (loadSem B₀.loads i) src dst hsrc hdst))
          fun _ => iprop(loadPay m c i ∗ semVal (kcell (c, ld i)) 0 ∗ ctx m K c O) := by
  iintro ⟨⟨Ha, Hc⟩, #Hr, HO⟩
  iapply (runs_then (runs_wait m K c (.inl i) src dst _ (loadSem_eq i) rfl hN O hO)) $$ [Ha Hc HO]
  · isplitr; · iexact Hr
    isplitl [Hc]; · iexact Hc
    isplitl [Ha]; · iexact Ha
    iexact HO
  iintro %_ ⟨Hp, Hz, HO⟩
  isplitl [Hp]
  · iapply (Entails.of_eq (show pay m c (ld i) 0 = loadPay m c i from rfl)); iexact Hp
  isplitl [Hz]; · iexact Hz
  isplitr; · iexact Hr
  iexact HO

/-- What the partial product of layer `l` uses up and leaves: the layer's weights loaded. -/
def weights : sProp 𝕄 :=
  iprop(has c (B₀.win l) fullShare (winV m l c) ∗ has c (B₀.wout l) fullShare (woutV m l c)
    ∗ avail c (winLayer B₀.wins l) ∗ avail c (woutLayer B₀.wouts l)
    ∗ semVal (kcell (c, ld (winIx l))) 0 ∗ semVal (kcell (c, ld (woutIx l))) 0)

/-- A layer's products: from the activations and the weights to the partial product. -/
theorem multiply_run (O : Owed) (hO : Above 0 O) :
    iprop(loading c (winIx l) ∗ loading c (woutIx l) ∗ avail c B₀.mine ∗ ctx m K c O)
      ⊢ runs c (multiply B₀ l (act m l.val c)) fun _ => iprop(weights m c l ∗ has c B₀.mine fullShare (part m l c) ∗ ctx m K c O) := by
  have eW : iprop(has c (winLayer B₀.wins l) fullShare (winV m l c))
      = has c (B₀.wins.slice (winRect l) (fun _ => rfl)) fullShare (shapeCast S1x128x256 (winV m l c) (by decide +kernel)) :=
    has_squeeze c _ squeezes_S1x128x256_S128x256 fullShare shapeCasts_S1x128x256_S128x256
      (show S128x256.ShapeCasts S1x128x256 by decide +kernel) (winV m l c)
  have eO : iprop(has c (woutLayer B₀.wouts l) fullShare (woutV m l c))
      = has c (B₀.wouts.slice (woutRect l) (fun _ => rfl)) fullShare (shapeCast S1x256x128 (woutV m l c) (by decide +kernel)) :=
    has_squeeze c _ squeezes_S1x256x128_S256x128 fullShare shapeCasts_S1x256x128_S256x128
      (show S256x128.ShapeCasts S1x256x128 by decide +kernel) (woutV m l c)
  unfold multiply weights
  rw [runs_bind]
  iintro ⟨L1, L2, Hm, HI⟩
  iapply (runs_then (load_wait m K c (winIx l) (B₀.win l) (winLayer B₀.wins l) (hsrc := View.wordExact_bits rfl)
    (hdst := View.wordExact_bits rfl) ((loadN_win l).symm) O hO)) $$ [L1 HI]
  · isplitl [L1]; · iexact L1
    iexact HI
  iintro %_ ⟨Hp, Z1, HI⟩
  ihave Hp := (Entails.of_eq (loadPay_win m c l)) $$ Hp
  unfold winPay
  icases Hp with ⟨Hw, Hp⟩
  ihave Hp := (Entails.of_eq eW) $$ Hp
  rw [runs_bind]
  iapply (runs_then (runs_load c B₀.wins (winRect l) (fun _ => rfl) _ fullShare _)) $$ Hp
  iintro %wi ⟨%hwi, Hp⟩
  rw [runs_bind]
  iapply (runs_then (load_wait m K c (woutIx l) (B₀.wout l) (woutLayer B₀.wouts l) (hsrc := View.wordExact_bits rfl)
    (hdst := View.wordExact_bits rfl) ((loadN_wout l).symm) O hO)) $$ [L2 HI]
  · isplitl [L2]; · iexact L2
    iexact HI
  iintro %_ ⟨Hq, Z2, HI⟩
  ihave Hq := (Entails.of_eq (loadPay_wout m c l)) $$ Hq
  unfold woutPay
  icases Hq with ⟨Hv, Hq⟩
  ihave Hq := (Entails.of_eq eO) $$ Hq
  rw [runs_bind]
  iapply (runs_then (runs_load c B₀.wouts (woutRect l) (fun _ => rfl) _ fullShare _)) $$ Hq
  iintro %wo ⟨%hwo, Hq⟩
  conv => lhs; unfold avail
  icases Hm with ⟨%X, Hm⟩
  ihave Hm := (Entails.of_eq (has_full c B₀.mine ![0, 0] (by decide) inb_S128x128_S128x128_0_0 fullShare X).symm) $$ Hm
  rw [runs_bind]
  iapply (runs_then (runs_load c B₀.mine _ (fun _ => rfl) _ fullShare X)) $$ Hm
  iintro %_ ⟨-, Hm⟩
  iapply (runs_then (runs_store c B₀.mine _ (fun _ => rfl) _ _ _ X)) $$ Hm
  iintro %_ Hm
  ihave Hm := (Entails.of_eq (has_full c B₀.mine ![0, 0] (by decide) inb_S128x128_S128x128_0_0 fullShare _)) $$ Hm
  isplitl [Hw Hv Hp Hq Z1 Z2]
  · isplitl [Hw]; · iexact Hw
    isplitl [Hv]; · iexact Hv
    isplitl [Hp]
    · iapply (avail_of c (winLayer B₀.wins l) (winV m l c)); iapply (Entails.of_eq eW.symm); iexact Hp
    isplitl [Hq]
    · iapply (avail_of c (woutLayer B₀.wouts l) (woutV m l c)); iapply (Entails.of_eq eO.symm); iexact Hq
    isplitl [Z1]; · iexact Z1
    iexact Z2
  isplitl [Hm]
  · subst hwi hwo; iexact Hm
  iexact HI

end Cert.KernelIdeal.Mlp

end
-- ==== Proof.Body.lean ====
/-
  The body: the greetings, the loads, three layers, the store of the result.
-/
module

public import proofs.«01_k».proof.Proof.Layer

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The families, enumerated -/

/-- A family over the layers, written out. -/
theorem threes (Φ : Fin 3 → sProp 𝕄) : bigSep Finset.univ Φ = iprop(Φ 0 ∗ Φ 1 ∗ Φ 2) :=
  bigSep_univ_eq_bigSepL [0, 1, 2] (by decide) (by decide) Φ

theorem fours (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sevens (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Seven loads: the input's, and two a layer. -/
theorem by_load (Φ : Fin 7 → sProp 𝕄) :
    bigSep Finset.univ Φ = iprop(Φ 0 ∗ bigSep Finset.univ fun l : Fin 3 => iprop(Φ (winIx l) ∗ Φ (woutIx l))) := by
  have h : iprop(Φ 0 ∗ Φ 1 ∗ Φ 2 ∗ Φ 3 ∗ Φ 4 ∗ Φ 5 ∗ Φ 6) ⊢ iprop(Φ 0 ∗ (Φ 1 ∗ Φ 2) ∗ (Φ 3 ∗ Φ 4) ∗ (Φ 5 ∗ Φ 6)) := by
    iintro ⟨H0, H1, H2, H3, H4, H5, H6⟩
    isplitl [H0]; · iexact H0
    isplitl [H1 H2]; · isplitl [H1] <;> iassumption
    isplitl [H3 H4]; · isplitl [H3] <;> iassumption
    isplitl [H5] <;> iassumption
  have h' : iprop(Φ 0 ∗ (Φ 1 ∗ Φ 2) ∗ (Φ 3 ∗ Φ 4) ∗ (Φ 5 ∗ Φ 6)) ⊢ iprop(Φ 0 ∗ Φ 1 ∗ Φ 2 ∗ Φ 3 ∗ Φ 4 ∗ Φ 5 ∗ Φ 6) := by
    iintro ⟨H0, ⟨H1, H2⟩, ⟨H3, H4⟩, ⟨H5, H6⟩⟩
    isplitl [H0]; · iexact H0
    isplitl [H1]; · iexact H1
    isplitl [H2]; · iexact H2
    isplitl [H3]; · iexact H3
    isplitl [H4]; · iexact H4
    isplitl [H5] <;> iassumption
  rw [sevens, threes]
  exact BI.Entails.antisymm h h'

/-- The slots: by layer, then by array; in each of them the one nobody uses, and one a peer. -/
theorem by_slot (Φ : Fin 4 × Fin 3 × Fin 16 → sProp 𝕄) :
    bigSep Finset.univ Φ = iprop((bigSep Finset.univ fun l : Fin 3 => bigSep Finset.univ fun f : Fin 4 => Φ (f, l, 0))
      ∗ bigSep Finset.univ fun l : Fin 3 => bigSep Finset.univ fun f : Fin 4 => each fun r => Φ (f, l, off r)) := by
  rw [← bigSep_sep', bigSep_univ_prod]
  refine (bigSep_congr fun f _ => bigSep_univ_prod fun p : Fin 3 × Fin 16 => Φ (f, p)).trans ?_
  rw [bigSep_univ_comm]
  refine bigSep_congr fun l _ => ?_
  rw [← bigSep_sep']
  exact bigSep_congr fun f _ => by_distance fun o => Φ (f, l, o)

/-- The semaphores of a device: the barrier's, the loads' and the slots'. -/
theorem by_cell (Φ : Cell → sProp 𝕄) :
    bigSep Finset.univ Φ = iprop((bigSep Finset.univ fun o : Own => Φ (some o)) ∗ Φ bar) := by
  rw [bigSep_univ_equiv (Equiv.optionEquivSumPUnit.{0, 0} Own).symm Φ, bigSep_univ_sum,
    bigSep_univ_of_subsingleton (PUnit.unit : PUnit.{1})]
  rfl

/-- Those of them that belong to the kernel alone. -/
theorem by_own (Φ : Own → sProp 𝕄) :
    bigSep Finset.univ Φ = iprop((bigSep Finset.univ fun i : Fin 7 => Φ (.inl i)) ∗ bigSep Finset.univ fun p : Fin 4 × Fin 3 × Fin 16 => Φ (.inr p)) :=
  bigSep_univ_sum Φ

variable (m : (ℓ : Loc nD τ sig) → Buf (Elt F) ℓ) (K : Dev nD × Cell → ℕ) (c : Dev nD)

/-! ## The greetings -/

/-- A greeting pays off one peer, -/
theorem oBar_cons (r : Fin 15) (rs : List (Fin 15)) (O : Owed) :
    oBar c (r :: rs) + O = tallyAt (kcell (peer c r, bar)) () 1 + (oBar c rs + O) := by
  unfold oBar; rw [List.map_cons, List.sum_cons, add_assoc]

/-- and after the last none is owed one. -/
theorem oBar_nil (O : Owed) : oBar c [] + O = O := zero_add O

theorem oLayers_cons (l : Fin 3) (ls : List (Fin 3)) :
    oLayers c (l :: ls) = oSlot 1 l c peers + (oSlot 3 l c peers + oLayers c ls) := by
  unfold oLayers; rw [List.map_cons, List.sum_cons, add_assoc]

/-- Seen from the peer, this device is the peer at the reverse place. -/
theorem peer_rev : ∀ (c : Dev nD) (r : Fin 15), peer (peer c r) (Fin.rev r) = c := by decide +kernel

/-- What `c` lends its peers: the landing slots they write, and its rows of the gathering buffer. -/
def lend (l : Fin 3) : sProp 𝕄 :=
  iprop((each fun r => avail c (slotM l (off r))) ∗ each fun r => avail c (agM l (peer c r)))

theorem each_rev (Φ : Fin 15 → sProp 𝕄) : each Φ = each fun r => Φ (Fin.rev r) := bigSep_univ_equiv Fin.revPerm Φ

/-- Each greeting lends the peer greeted what it writes. -/
theorem lend_pay : (bigSep Finset.univ fun l => lend (F := F) c l) ⊢ each fun r => barPay (peer c r) r := by
  have h : (bigSep Finset.univ fun l => lend (F := F) c l) = each fun r => barPay (F := F) (peer c r) r := by
    have h1 : (each fun r => barPay (F := F) (peer c r) r)
        = bigSep Finset.univ fun l : Fin 3 => each fun r => iprop(avail c (slotM l (off (Fin.rev r))) ∗ avail c (agM l (peer c r))) := by
      rw [bigSep_univ_comm]
      refine bigSep_congr fun r _ => ?_
      unfold barPay
      rw [peer_rev]
    rw [h1]
    refine bigSep_congr fun l _ => ?_
    unfold lend
    rw [each_sep, each_rev fun r => avail c (slotM l (off r))]
  rw [h]

/-- What the greetings received lend `c`. -/
theorem pay_supply : (bigSep Finset.univ fun r => barPay (F := F) c r) ⊢ bigSep Finset.univ fun l => supply c l := by
  have h : (bigSep Finset.univ fun r => barPay (F := F) c r) = bigSep Finset.univ fun l => supply (F := F) c l := by
    unfold barPay
    rw [bigSep_univ_comm]
    refine bigSep_congr fun l _ => ?_
    unfold supply
    rw [← each_sep]
    exact (each_rev fun r => iprop(avail (peer c r) (slotM l (off r)) ∗ avail (peer c r) (agM l c))).symm
  rw [h]

/-- Greet every peer: hand it the landing slots that it will copy into. -/
theorem greet_all (O : Owed) :
    iprop((each fun r => tok (peer c r, bar) r) ∗ (bigSep Finset.univ fun l => lend c l) ∗ ctx m K c (oBar c peers + O))
      ⊢ runs c (forEach peers (greet c)) fun _ => ctx m K c O := by
  have step : ∀ (r : Fin 15) rest, iprop((tok (peer c r, bar) r ∗ barPay (peer c r) r) ∗ ctx m K c (oBar c (r :: rest) + O))
      ⊢ runs c (greet c r) fun _ => iprop(emp ∗ ctx m K c (oBar c rest + O)) := fun r rest => by
    rw [oBar_cons]
    iintro ⟨⟨Ht, Hp⟩, #Hr, HO⟩
    iapply (runs_then (runs_greet m K c r (oBar c rest + O))) $$ [Ht Hp HO]
    · isplitr; · iexact Hr
      isplitl [Ht]; · iexact Ht
      isplitl [Hp]; · iexact Hp
      iexact HO
    iintro %_ HO
    isplitr; · iempintro
    isplitr; · iexact Hr
    iexact HO
  iintro ⟨Ht, Hl, HI⟩
  ihave Hl := (lend_pay (F := F) c) $$ Hl
  ihave H := (each_two _ _) $$ [Ht Hl]
  · isplitl [Ht]; · iexact Ht
    iexact Hl
  iapply (runs_then (runs_peers (greet c) _ _ (fun rest => ctx m K c (oBar c rest + O)) step)) $$ [H HI]
  · isplitl [H]; · iexact H
    iexact HI
  iintro %_ ⟨-, HI⟩
  rw [oBar_nil]; iexact HI

/-! ## The loads -/

/-- The weights of a layer, and where they are to be loaded. -/
def toLoad (l : Fin 3) : sProp 𝕄 :=
  iprop(has c (B₀.win l) fullShare (winV m l c) ∗ has c (B₀.wout l) fullShare (woutV m l c)
    ∗ avail c (winLayer B₀.wins l) ∗ avail c (woutLayer B₀.wouts l) ∗ tok (c, ld (winIx l)) 0 ∗ tok (c, ld (woutIx l)) 0)

/-- Both loads of a layer under way. -/
def inFlight (l : Fin 3) : sProp 𝕄 := iprop(due c (ld (winIx l)) (amt (ld (winIx l))) ∗ due c (ld (woutIx l)) (amt (ld (woutIx l))))

/-- Start the input's load, -/
theorem loadX_run : iprop(records m K ∗ has c B₀.x fullShare (x0 m c) ∗ avail c B₀.xv ∗ tok (c, ld 0) 0)
    ⊢ runs c (loadX B₀) fun _ => due c (ld 0) (amt (ld 0)) :=
  runs_copy m K c (.inl 0) B₀.x B₀.xv _ (loadSem_eq 0) fullShare (x0 m c) (Finset.mem_singleton_self _) rfl (Entails.of_eq rfl)

/-- a layer's two loads, -/
theorem loadLayer_run (l : Fin 3) : iprop(toLoad m c l ∗ records m K)
    ⊢ runs c (loadWin B₀ l >>= fun _ => loadWout B₀ l) fun _ => iprop(inFlight c l ∗ records m K) := by
  have hw := runs_copy m K c (.inl (winIx l)) (B₀.win l) (winLayer B₀.wins l) _ (loadSem_eq (winIx l)) (hsrc := View.wordExact_bits rfl)
    (hdst := View.wordExact_bits rfl) (hsem := ⟨Or.inl rfl, trivial⟩) fullShare (winV m l c) (Finset.mem_singleton_self _) (loadN_win l).symm
    (Entails.of_eq (loadPay_win m c l).symm)
  have ho := runs_copy m K c (.inl (woutIx l)) (B₀.wout l) (woutLayer B₀.wouts l) _ (loadSem_eq (woutIx l)) (hsrc := View.wordExact_bits rfl)
    (hdst := View.wordExact_bits rfl) (hsem := ⟨Or.inl rfl, trivial⟩) fullShare (woutV m l c) (Finset.mem_singleton_self _) (loadN_wout l).symm
    (Entails.of_eq (loadPay_wout m c l).symm)
  unfold toLoad inFlight
  rw [runs_bind]
  iintro ⟨⟨H1, H2, H3, H4, T1, T2⟩, #Hr⟩
  iapply (runs_then hw) $$ [H1 H3 T1]
  · isplitr; · iexact Hr
    isplitl [H1]; · iexact H1
    isplitl [H3]; · iexact H3
    iexact T1
  iintro %_ D1
  iapply (runs_then ho) $$ [H2 H4 T2]
  · isplitr; · iexact Hr
    isplitl [H2]; · iexact H2
    isplitl [H4]; · iexact H4
    iexact T2
  iintro %_ D2
  isplitl [D1 D2]
  · isplitl [D1]; · iexact D1
    iexact D2
  iexact Hr

/-- and all of them. -/
theorem startLoads_run :
    iprop(records m K ∗ (has c B₀.x fullShare (x0 m c) ∗ avail c B₀.xv ∗ tok (c, ld 0) 0) ∗ bigSep Finset.univ fun l => toLoad m c l)
      ⊢ runs c (startLoads B₀) fun _ => iprop(due c (ld 0) (amt (ld 0)) ∗ bigSep Finset.univ fun l => inFlight c l) := by
  have e (Φ : Fin 3 → sProp 𝕄) : bigSep Finset.univ Φ = bigSepL [⟨0, by decide⟩, ⟨1, by decide⟩, ⟨2, by decide⟩] Φ :=
    bigSep_univ_eq_bigSepL _ (by decide) (by decide) Φ
  unfold startLoads
  rw [runs_bind, e, e]
  iintro ⟨#Hr, Hx, Hl⟩
  iapply (runs_then (loadX_run m K c)) $$ [Hx]
  · isplitr; · iexact Hr
    iexact Hx
  iintro %_ Dx
  iapply (runs_then (runs_forEach (fun l => loadWin B₀ l >>= fun _ => loadWout B₀ l) (fun l => toLoad m c l) (fun l => inFlight c l)
    (fun _ => records m K) (fun l _ => loadLayer_run m K c l) _)) $$ [Hl]
  · isplitl [Hl]; · iexact Hl
    iexact Hr
  iintro %_ ⟨Hl, -⟩
  isplitl [Dx]; · iexact Dx
  iexact Hl

/-! ## A layer -/

/-- What device `c` brings to layer `l`. -/
def layerPre (l : Fin 3) : sProp 𝕄 := iprop(loading c (winIx l) ∗ loading c (woutIx l) ∗ avail c (agM l c) ∗ kit c l)

/-- One layer, whatever its barrier turns `P` into besides the landing slots. -/
theorem layer_run (l : Fin 3) (P R : sProp 𝕄) (O : Owed) (hO : Above (3 + 2 * l.val) O)
    (hb : iprop(P ∗ ctx m K c (oSlot 1 l c peers + (oSlot 3 l c peers + O)))
      ⊢ runs c (barrier l) fun _ => iprop(supply c l ∗ R ∗ ctx m K c (oSlot 1 l c peers + (oSlot 3 l c peers + O)))) :
    iprop(layerPre c l ∗ avail c B₀.mine ∗ avail c B₀.red ∗ P ∗ ctx m K c (oSlot 1 l c peers + (oSlot 3 l c peers + O)))
      ⊢ runs c (layer B₀ c (act m l.val c) l) fun v => iprop(⌜v = act m (l.val + 1) c⌝ ∗ (weights m c l ∗ spent c l) ∗ avail c B₀.mine
          ∗ avail c B₀.red ∗ R ∗ ctx m K c O) := by
  have h0 : Above 0 (oSlot 1 l c peers + (oSlot 3 l c peers + O)) :=
    (above_slot 1 l c peers fun _ => by show _ < 2 + 2 * l.val; omega).add
      ((above_slot 3 l c peers fun _ => by show _ < 3 + 2 * l.val; omega).add (hO.mono (by omega)))
  unfold layer layerPre
  rw [runs_bind]
  iintro ⟨⟨L1, L2, Hag, Hk⟩, Hm, Hred, HP, HI⟩
  iapply (runs_then (multiply_run m K c l _ h0)) $$ [L1 L2 Hm HI]
  · isplitl [L1]; · iexact L1
    isplitl [L2]; · iexact L2
    isplitl [Hm]; · iexact Hm
    iexact HI
  iintro %_ ⟨Hw, Hm, HI⟩
  rw [runs_bind]
  iapply (runs_then hb) $$ [HP HI]
  · isplitl [HP]; · iexact HP
    iexact HI
  iintro %_ ⟨Hs, HR, HI⟩
  iapply (runs_then (exchange_run m K c l O hO)) $$ [Hm Hred Hag Hs Hk HI]
  · isplitl [Hm]; · iexact Hm
    isplitl [Hred]; · iexact Hred
    isplitl [Hag]; · iexact Hag
    isplitl [Hs]; · iexact Hs
    isplitl [Hk]; · iexact Hk
    iexact HI
  iintro %v ⟨%hv, Hm, Hred, Hsp, HI⟩
  isplitr; · ipureintro; exact hv
  isplitl [Hw Hsp]
  · isplitl [Hw]; · iexact Hw
    iexact Hsp
  isplitl [Hm]; · iexact Hm
  isplitl [Hred]; · iexact Hred
  isplitl [HR]; · iexact HR
  iexact HI

/-- The barrier, passed once: it brings what the peers lend for every layer. -/
theorem barrier_first (O : Owed) (hO : Above 1 O) :
    iprop((due c bar 15 ∗ at0 c bar) ∗ ctx m K c O) ⊢ runs c (barrier (F := F) 0)
      fun _ => iprop(supply c 0 ∗ (supply c 1 ∗ supply c 2 ∗ semVal (kcell (c, bar)) 0) ∗ ctx m K c O) := by
  show _ ⊢ runs c (semWaitWord barSem 15#32) _
  iintro ⟨⟨Hd, Ha⟩, #Hr, HO⟩
  iapply (runs_then (runs_barrier m K c O hO)) $$ [Hd Ha HO]
  · isplitr; · iexact Hr
    isplitl [Hd]; · iexact Hd
    isplitl [Ha]; · iexact Ha
    iexact HO
  iintro %_ ⟨Hp, Hz, HO⟩
  ihave Hp := ((pay_supply (F := F) c).trans (Entails.of_eq (threes fun l => supply (F := F) c l))) $$ Hp
  icases Hp with ⟨H0, H1, H2⟩
  isplitl [H0]; · iexact H0
  isplitl [H1 H2 Hz]
  · isplitl [H1]; · iexact H1
    isplitl [H2]; · iexact H2
    iexact Hz
  isplitr; · iexact Hr
  iexact HO

/-- Later layers have no barrier: the landing slots are at hand. -/
theorem barrier_later (l : Fin 3) (h : barrier (F := F) l = pure ⟨⟩) (R : sProp 𝕄) (O : Owed) :
    iprop((supply c l ∗ R) ∗ ctx m K c O) ⊢ runs c (barrier (F := F) l) fun _ => iprop(supply c l ∗ R ∗ ctx m K c O) := by
  rw [h]
  iintro ⟨⟨H1, H2⟩, HI⟩
  iapply (runs_pure c)
  isplitl [H1]; · iexact H1
  isplitl [H2]; · iexact H2
  iexact HI

/-- The three layers. -/
theorem layers_run :
    iprop((bigSep Finset.univ fun l => layerPre c l) ∗ avail c B₀.mine ∗ avail c B₀.red ∗ (due c bar 15 ∗ at0 c bar) ∗ ctx m K c (oLayers c layers))
      ⊢ runs c (foldEach [⟨0, by decide⟩, ⟨1, by decide⟩, ⟨2, by decide⟩] (x0 m c) (layer B₀ c)) fun v => iprop(⌜v = act m 3 c⌝
          ∗ (bigSep Finset.univ fun l => iprop(weights m c l ∗ spent c l)) ∗ avail c B₀.mine ∗ avail c B₀.red ∗ semVal (kcell (c, bar)) 0 ∗ ctx m K c 0) := by
  have e0 : oLayers c layers = oSlot 1 0 c peers + (oSlot 3 0 c peers + oLayers c [1, 2]) := oLayers_cons c 0 [1, 2]
  have e1 : oLayers c [1, 2] = oSlot 1 1 c peers + (oSlot 3 1 c peers + oLayers c [2]) := oLayers_cons c 1 [2]
  have e2 : oLayers c [2] = oSlot 1 2 c peers + (oSlot 3 2 c peers + 0) := oLayers_cons c 2 []
  have a0 : Above 1 (oSlot 1 0 c peers + (oSlot 3 0 c peers + oLayers c [1, 2])) := by
    rw [← e0]; exact above_layers c layers fun l _ => by omega
  have h0 := layer_run m K c 0 iprop(due c bar 15 ∗ at0 c bar) iprop(supply c 1 ∗ supply c 2 ∗ semVal (kcell (c, bar)) 0) (oLayers c [1, 2])
    (above_layers c _ (by decide)) (barrier_first m K c _ a0)
  have h1 := layer_run m K c 1 iprop(supply c 1 ∗ supply c 2 ∗ semVal (kcell (c, bar)) 0) iprop(supply c 2 ∗ semVal (kcell (c, bar)) 0) (oLayers c [2])
    (above_layers c _ (by decide)) (barrier_later m K c 1 rfl _ _)
  have h2 := layer_run m K c 2 iprop(supply c 2 ∗ semVal (kcell (c, bar)) 0) iprop(semVal (kcell (c, bar)) 0) 0
    (Above.zero _) (barrier_later m K c 2 rfl _ _)
  rw [threes, threes, e0, e1, e2]
  rw [e1, e2] at h0
  rw [e2] at h1
  iintro ⟨⟨P0, P1, P2⟩, Hm, Hred, HB, HI⟩
  unfold foldEach
  rw [runs_bind]
  iapply (runs_then h0) $$ [P0 Hm Hred HB HI]
  · isplitl [P0]; · iexact P0
    isplitl [Hm]; · iexact Hm
    isplitl [Hred]; · iexact Hred
    isplitl [HB]; · iexact HB
    iexact HI
  iintro %v ⟨%hv, W0, Hm, Hred, HB, HI⟩
  subst hv
  unfold foldEach
  rw [runs_bind]
  iapply (runs_then h1) $$ [P1 Hm Hred HB HI]
  · isplitl [P1]; · iexact P1
    isplitl [Hm]; · iexact Hm
    isplitl [Hred]; · iexact Hred
    isplitl [HB]; · iexact HB
    iexact HI
  iintro %v ⟨%hv, W1, Hm, Hred, HB, HI⟩
  subst hv
  unfold foldEach
  rw [runs_bind]
  iapply (runs_then h2) $$ [P2 Hm Hred HB HI]
  · isplitl [P2]; · iexact P2
    isplitl [Hm]; · iexact Hm
    isplitl [Hred]; · iexact Hred
    isplitl [HB]; · iexact HB
    iexact HI
  iintro %v ⟨%hv, W2, Hm, Hred, HB, HI⟩
  subst hv
  unfold foldEach
  iapply (runs_pure c)
  isplitr; · ipureintro; rfl
  isplitl [W0 W1 W2]
  · isplitl [W0]; · iexact W0
    isplitl [W1]; · iexact W1
    iexact W2
  isplitl [Hm]; · iexact Hm
  isplitl [Hred]; · iexact Hred
  isplitl [HB]; · iexact HB
  iexact HI

/-! ## The body -/

/-- A program that asks for its device goes on with the answer. -/
theorem runs_deviceId {α : Type} (k : Dev nD → TProg F α) (Q : α → sProp 𝕄) :
    runs c (Prog.lift .deviceId >>= k) Q = runs c (k c) Q := by
  unfold runs
  show wp _ _ _ (.op .deviceId fun d => k d) _ = _
  rw [wp_deviceId]

/-- An update may come before a run. -/
theorem runs_fupd {α : Type} (p : TProg F α) (Q : α → sProp 𝕄) : iprop(|={Set.univ}=> runs c p Q) ⊢ runs c p Q := fupd_wp _ _ _ _ _

/-- A device's private buffers, at whatever they hold. -/
def scratch : sProp 𝕄 :=
  iprop(avail c B₀.xv ∗ avail c B₀.wins ∗ avail c B₀.wouts ∗ avail c B₀.mine ∗ avail c B₀.red ∗ avail c B₀.rs ∗ avail c B₀.ag)

/-- A device's arguments. -/
def args : sProp 𝕄 :=
  iprop(has c B₀.x fullShare (x0 m c) ∗ (bigSep Finset.univ fun l => has c (B₀.win l) fullShare (winV m l c))
    ∗ bigSep Finset.univ fun l => has c (B₀.wout l) fullShare (woutV m l c))

/-- The rights to the duties that device `c` performs in a layer's exchange. -/
def rights (l : Fin 3) : sProp 𝕄 :=
  iprop((each fun r => tok (c, slot 0 l (off r)) 0) ∗ (each fun r => tok (peer c r, slot 1 l (off r)) 0)
    ∗ (each fun r => tok (c, slot 2 l (off r)) 0) ∗ (each fun r => tok (peer c r, slot 3 l (off r)) 0))

/-- What device `c` has of the protocol at the start. -/
def part₀ : sProp 𝕄 :=
  iprop((bigSep Finset.univ fun i => tok (c, ld i) 0) ∗ (each fun r => tok (peer c r, bar) r) ∗ (bigSep Finset.univ fun l => rights c l)
    ∗ (bigSep Finset.univ fun k => at0 c k) ∗ due c bar 15 ∗ bigSep Finset.univ fun l => iprop(dues c l 1 ∗ dues c l 3))

/-- The semaphores nobody uses. -/
def idle : sProp 𝕄 := bigSep Finset.univ fun l : Fin 3 => bigSep Finset.univ fun f : Fin 4 => at0 c (slot f l 0)

/-- Before the greetings, the buffers by what becomes of them. -/
theorem split_buffers :
    iprop(args m c ∗ scratch c ∗ bigSep Finset.univ fun i => tok (c, ld i) 0)
      ⊢ iprop((has c B₀.x fullShare (x0 m c) ∗ avail c B₀.xv ∗ tok (c, ld 0) 0) ∗ (bigSep Finset.univ fun l => toLoad m c l)
          ∗ avail c B₀.mine ∗ avail c B₀.red ∗ (bigSep Finset.univ fun l => avail c (slotM l 0)) ∗ (bigSep Finset.univ fun l => lend c l)
          ∗ bigSep Finset.univ fun l => avail c (agM l c)) := by
  have hrs : avail (F := F) c B₀.rs ⊢ iprop((bigSep Finset.univ fun l => avail c (slotM l 0)) ∗ bigSep Finset.univ fun l => each fun r => avail c (slotM l (off r))) := by
    refine (rs_split c).trans (Entails.of_eq ?_)
    rw [bigSep_univ_prod, ← bigSep_sep']
    exact bigSep_congr fun l _ => by_distance fun o => avail c (slotM l o)
  have hag : avail (F := F) c B₀.ag ⊢ iprop((bigSep Finset.univ fun l => avail c (agM l c)) ∗ bigSep Finset.univ fun l => each fun r => avail c (agM l (peer c r))) := by
    refine (ag_split c).trans (Entails.of_eq ?_)
    rw [bigSep_univ_prod, ← bigSep_sep']
    exact bigSep_congr fun l _ => by_peer c fun d => avail c (agM l d)
  unfold args scratch lend toLoad
  rw [by_load fun i => tok (c, ld i) 0]
  simp only [bigSep_sep']
  iintro ⟨⟨Hx, Hw, Ho⟩, ⟨Hxv, Hws, Hos, Hm, Hred, Hrs, Hag⟩, ⟨Tx, Tw, To⟩⟩
  ihave Hws := (wins_split c) $$ Hws
  ihave Hos := (wouts_split c) $$ Hos
  ihave Hrs := hrs $$ Hrs
  ihave Hag := hag $$ Hag
  icases Hrs with ⟨Hr0, Hrs⟩
  icases Hag with ⟨Ha0, Hag⟩
  isplitl [Hx Hxv Tx]
  · isplitl [Hx]; · iexact Hx
    isplitl [Hxv]; · iexact Hxv
    iexact Tx
  isplitl [Hw Ho Hws Hos Tw To]
  · isplitl [Hw]; · iexact Hw
    isplitl [Ho]; · iexact Ho
    isplitl [Hws]; · iexact Hws
    isplitl [Hos]; · iexact Hos
    isplitl [Tw]; · iexact Tw
    iexact To
  isplitl [Hm]; · iexact Hm
  isplitl [Hred]; · iexact Hred
  isplitl [Hr0]; · iexact Hr0
  isplitl [Hrs Hag]
  · isplitl [Hrs]; · iexact Hrs
    iexact Hag
  iexact Ha0

/-- The waits of a device, by what they are for. -/
theorem split_waits :
    (bigSep Finset.univ fun k => at0 (F := F) c k)
      ⊢ iprop((at0 c (ld 0) ∗ bigSep Finset.univ fun l : Fin 3 => iprop(at0 c (ld (winIx l)) ∗ at0 c (ld (woutIx l)))) ∗ at0 c bar ∗ idle c
          ∗ bigSep Finset.univ fun l : Fin 3 => iprop(at0s c l 0 ∗ at0s c l 1 ∗ at0s c l 2 ∗ at0s c l 3)) := by
  have h : (bigSep Finset.univ fun l : Fin 3 => iprop(at0s (F := F) c l 0 ∗ at0s c l 1 ∗ at0s c l 2 ∗ at0s c l 3))
      = bigSep Finset.univ fun l : Fin 3 => bigSep Finset.univ fun f : Fin 4 => at0s (F := F) c l f :=
    bigSep_congr fun l _ => (fours fun f => at0s (F := F) c l f).symm
  rw [h, by_cell, by_own, by_load, by_slot]
  unfold idle
  iintro ⟨⟨Hl, Hi, Hs⟩, Hb⟩
  isplitl [Hl]; · iexact Hl
  isplitl [Hb]; · iexact Hb
  isplitl [Hi]; · iexact Hi
  iexact Hs

/-- Every semaphore back at zero. -/
theorem join_zeros :
    iprop(semVal (kcell (c, ld 0)) 0 ∗ (bigSep Finset.univ fun l : Fin 3 => iprop(semVal (kcell (c, ld (winIx l))) 0 ∗ semVal (kcell (c, ld (woutIx l))) 0))
        ∗ semVal (kcell (c, bar)) 0 ∗ (bigSep Finset.univ fun l : Fin 3 => bigSep Finset.univ fun f : Fin 4 => semVal (kcell (c, slot f l 0)) 0)
        ∗ bigSep Finset.univ fun l : Fin 3 => iprop(zeros c l 0 ∗ zeros c l 1 ∗ zeros c l 2 ∗ zeros c l 3))
      ⊢ (bigSep Finset.univ fun k : Cell => semVal (kcell (c, k)) 0 : sProp 𝕄) := by
  have h : (bigSep Finset.univ fun l : Fin 3 => iprop(zeros (F := F) c l 0 ∗ zeros c l 1 ∗ zeros c l 2 ∗ zeros c l 3))
      = bigSep Finset.univ fun l : Fin 3 => bigSep Finset.univ fun f : Fin 4 => zeros (F := F) c l f :=
    bigSep_congr fun l _ => (fours fun f => zeros (F := F) c l f).symm
  rw [h, by_cell, by_own, by_load, by_slot]
  iintro ⟨H0, Hl, Hb, Hi, Hs⟩
  isplitr [Hb]
  · isplitl [H0 Hl]
    · isplitl [H0]; · iexact H0
      iexact Hl
    isplitl [Hi]; · iexact Hi
    iexact Hs
  iexact Hb

/-- The semaphores nobody uses are at zero. -/
theorem idle_zeros : iprop(records m K ∗ idle c) ⊢ |={Set.univ}=> (bigSep Finset.univ fun l : Fin 3 => bigSep Finset.univ fun f : Fin 4 => semVal (kcell (c, slot f l 0)) 0 : sProp 𝕄) := by
  have h1 (l : Fin 3) (f : Fin 4) : iprop(records m K ∗ at0 c (slot f l 0)) ⊢ |={Set.univ}=> (semVal (kcell (c, slot f l 0)) 0 : sProp 𝕄) :=
    unused m K c (slot f l 0) rfl
  have h2 (l : Fin 3) : iprop(records m K ∗ bigSep Finset.univ fun f : Fin 4 => at0 c (slot f l 0))
      ⊢ |={Set.univ}=> (bigSep Finset.univ fun f : Fin 4 => semVal (kcell (c, slot f l 0)) 0 : sProp 𝕄) :=
    (BI.bigSep_with_persistent fun f _ => h1 l f).trans (bigSep_fupd _ _)
  exact (BI.bigSep_with_persistent fun l _ => h2 l).trans (bigSep_fupd _ _)

/-- The buffers together again, after the layers. -/
theorem join_buffers :
    iprop((has c B₀.x fullShare (x0 m c) ∗ has c B₀.xv fullShare (x0 m c)) ∗ (bigSep Finset.univ fun l => iprop(weights m c l ∗ spent c l)) ∗ avail c B₀.mine ∗ avail c B₀.red
        ∗ bigSep Finset.univ fun l => avail c (slotM l 0))
      ⊢ iprop(args m c ∗ scratch c ∗ (bigSep Finset.univ fun l : Fin 3 => iprop(semVal (kcell (c, ld (winIx l))) 0 ∗ semVal (kcell (c, ld (woutIx l))) 0))
          ∗ bigSep Finset.univ fun l : Fin 3 => iprop(zeros c l 0 ∗ zeros c l 1 ∗ zeros c l 2 ∗ zeros c l 3)) := by
  have hrs : iprop((bigSep Finset.univ fun l => avail (F := F) c (slotM l 0)) ∗ bigSep Finset.univ fun l => each fun r => avail c (slotM l (off r))) ⊢ avail (F := F) c B₀.rs := by
    refine (Entails.of_eq ?_).trans (rs_join c)
    rw [bigSep_univ_prod, ← bigSep_sep']
    exact bigSep_congr fun l _ => (by_distance fun o => avail c (slotM l o)).symm
  unfold args scratch weights spent
  simp only [bigSep_sep']
  iintro ⟨⟨Hx, Hxv⟩, ⟨⟨Hw, Ho, Hws, Hos, Z1, Z2⟩, ⟨Hrs, Hag, Z⟩⟩, Hm, Hred, Hr0⟩
  isplitl [Hx Hw Ho]
  · isplitl [Hx]; · iexact Hx
    isplitl [Hw]; · iexact Hw
    iexact Ho
  isplitl [Hxv Hws Hos Hm Hred Hrs Hr0 Hag]
  · isplitl [Hxv]; · iapply (avail_of c B₀.xv (x0 m c)); iexact Hxv
    isplitl [Hws]; · iapply (wins_join c); iexact Hws
    isplitl [Hos]; · iapply (wouts_join c); iexact Hos
    isplitl [Hm]; · iexact Hm
    isplitl [Hred]; · iexact Hred
    isplitl [Hrs Hr0]
    · iapply hrs
      isplitl [Hr0]; · iexact Hr0
      iexact Hrs
    iapply (ag_join c); iexact Hag
  isplitl [Z1 Z2]
  · isplitl [Z1]; · iexact Z1
    iexact Z2
  iexact Z

/-- What the layers start from. -/
theorem layers_pre :
    iprop((bigSep Finset.univ fun l : Fin 3 => iprop(at0 c (ld (winIx l)) ∗ at0 c (ld (woutIx l)))) ∗ (bigSep Finset.univ fun l => inFlight c l)
        ∗ (bigSep Finset.univ fun l => avail c (agM l c)) ∗ (bigSep Finset.univ fun l => rights c l)
        ∗ (bigSep Finset.univ fun l : Fin 3 => iprop(at0s c l 0 ∗ at0s c l 1 ∗ at0s c l 2 ∗ at0s c l 3))
        ∗ bigSep Finset.univ fun l : Fin 3 => iprop(dues c l 1 ∗ dues c l 3))
      ⊢ bigSep Finset.univ fun l => layerPre (F := F) c l := by
  have h (l : Fin 3) : iprop((at0 c (ld (winIx l)) ∗ at0 c (ld (woutIx l))) ∗ inFlight c l ∗ avail c (agM l c) ∗ rights c l
      ∗ (at0s c l 0 ∗ at0s c l 1 ∗ at0s c l 2 ∗ at0s c l 3) ∗ (dues c l 1 ∗ dues c l 3)) ⊢ layerPre (F := F) c l := by
    unfold inFlight rights layerPre kit
    iintro ⟨⟨A1, A2⟩, ⟨D1, D2⟩, Hag, ⟨T0, T1, T2, T3⟩, ⟨B0, B1, B2, B3⟩, ⟨E1, E3⟩⟩
    isplitl [A1 D1]
    · isplitl [A1]; · iexact A1
      iexact D1
    isplitl [A2 D2]
    · isplitl [A2]; · iexact A2
      iexact D2
    isplitl [Hag]; · iexact Hag
    isplitl [T0]; · iexact T0
    isplitl [T1]; · iexact T1
    isplitl [T2]; · iexact T2
    isplitl [T3]; · iexact T3
    isplitl [B0]; · iexact B0
    isplitl [B1]; · iexact B1
    isplitl [B2]; · iexact B2
    isplitl [B3]; · iexact B3
    isplitl [E1]; · iexact E1
    iexact E3
  rw [← bigSep_sep', ← bigSep_sep', ← bigSep_sep', ← bigSep_sep', ← bigSep_sep']
  exact bigSep_mono fun l _ => h l

/-- The body: the result is the activations after three layers; the arguments stay; every semaphore ends at zero. -/
theorem body_run :
    iprop(records m K ∗ args m c ∗ scratch c ∗ part₀ c ∗ avail c B₀.out ∗ ow c (O₀ c))
      ⊢ runs c (body B₀) fun _ => iprop(has c B₀.out fullShare (act m 3 c) ∗ args m c ∗ scratch c
          ∗ (bigSep Finset.univ fun k : Cell => semVal (kcell (c, k)) 0) ∗ ow c 0) := by
  have hX : ∀ (M : Memref sig .tc .vmem S128x128 .f32) (X : S128x128.Idx → Elt F .f32),
      has c (M.slice (Rect.unit (s := S128x128) ![0, 0] S128x128.size inb_S128x128_S128x128_0_0) (fun _ => rfl)) fullShare X = has c M fullShare X :=
    fun M X => has_full c M ![0, 0] (by decide) inb_S128x128_S128x128_0_0 fullShare X
  have a0 : Above 0 (oLayers c layers) := above_layers c layers fun l _ => by omega
  unfold body part₀ O₀
  rw [runs_deviceId, runs_bind]
  iintro ⟨#Hr, Hargs, Hscr, ⟨Tl, Tg, Tr, Ha, Hd, Hds⟩, Hout, HO⟩
  ihave H := (split_buffers m c) $$ [Hargs Hscr Tl]
  · isplitl [Hargs]; · iexact Hargs
    isplitl [Hscr]; · iexact Hscr
    iexact Tl
  icases H with ⟨Hx, Hload, Hm, Hred, Hr0, Hlend, Ha0⟩
  ihave Ha := (split_waits (F := F) c) $$ Ha
  icases Ha with ⟨⟨Ax, Al⟩, Ab, Ai, As⟩
  iapply (runs_fupd c _ _)
  imod (idle_zeros m K c) $$ [Ai] with Zi
  · isplitr; · iexact Hr
    iexact Ai
  imodintro
  iapply (runs_then (greet_all m K c (oLayers c layers))) $$ [Tg Hlend HO]
  · isplitl [Tg]; · iexact Tg
    isplitl [Hlend]; · iexact Hlend
    isplitr; · iexact Hr
    iexact HO
  iintro %_ HI
  rw [runs_bind]
  iapply (runs_then (startLoads_run m K c)) $$ [Hx Hload]
  · isplitr; · iexact Hr
    isplitl [Hx]; · iexact Hx
    iexact Hload
  iintro %_ ⟨Dx, Dl⟩
  rw [runs_bind]
  iapply (runs_then (load_wait m K c 0 B₀.x B₀.xv (hsrc := View.wordExact_bits rfl) (hdst := View.wordExact_bits rfl) rfl
    (oLayers c layers) a0)) $$ [Ax Dx HI]
  · isplitl [Ax Dx]
    · isplitl [Ax]; · iexact Ax
      iexact Dx
    iexact HI
  iintro %_ ⟨Hp, Zx, HI⟩
  ihave Hp := (Entails.of_eq (show loadPay m c 0 = iprop(has c B₀.x fullShare (x0 m c) ∗ has c B₀.xv fullShare (x0 m c)) from rfl)) $$ Hp
  icases Hp with ⟨Hx, Hxv⟩
  ihave Hxv := (Entails.of_eq (hX B₀.xv (x0 m c)).symm) $$ Hxv
  rw [runs_bind]
  iapply (runs_then (runs_load c B₀.xv (Rect.unit (s := S128x128) ![0, 0] S128x128.size inb_S128x128_S128x128_0_0) (fun _ => rfl) _ fullShare (x0 m c))) $$ Hxv
  iintro %x ⟨%hx, Hxv⟩
  subst hx
  ihave Hxv := (Entails.of_eq (hX B₀.xv (x0 m c))) $$ Hxv
  ihave Hl := (layers_pre (F := F) c) $$ [Al Dl Ha0 Tr As Hds]
  · isplitl [Al]; · iexact Al
    isplitl [Dl]; · iexact Dl
    isplitl [Ha0]; · iexact Ha0
    isplitl [Tr]; · iexact Tr
    isplitl [As]; · iexact As
    iexact Hds
  rw [runs_bind]
  iapply (runs_then (layers_run m K c)) $$ [Hl Hm Hred Hd Ab HI]
  · isplitl [Hl]; · iexact Hl
    isplitl [Hm]; · iexact Hm
    isplitl [Hred]; · iexact Hred
    isplitl [Hd Ab]
    · isplitl [Hd]; · iexact Hd
      iexact Ab
    iexact HI
  iintro %y ⟨%hy, Hl, Hm, Hred, Zb, HI⟩
  subst hy
  ihave Hout := (Entails.of_eq (show avail c B₀.out = iprop(∃ X, has c B₀.out fullShare X) from rfl)) $$ Hout
  icases Hout with ⟨%X, Hout⟩
  ihave Hout := (Entails.of_eq (hX B₀.out X).symm) $$ Hout
  rw [runs_bind]
  iapply (runs_then (runs_load c B₀.out (Rect.unit (s := S128x128) ![0, 0] S128x128.size inb_S128x128_S128x128_0_0) (fun _ => rfl) _ fullShare X)) $$ Hout
  iintro %_ ⟨-, Hout⟩
  iapply (runs_then (runs_store c B₀.out (Rect.unit (s := S128x128) ![0, 0] S128x128.size inb_S128x128_S128x128_0_0) (fun _ => rfl) (act m 3 c) _ _ X)) $$ Hout
  iintro %_ Hout
  ihave Hout := (Entails.of_eq (hX B₀.out (act m 3 c))) $$ Hout
  ihave H := (join_buffers m c) $$ [Hx Hxv Hl Hm Hred Hr0]
  · isplitl [Hx Hxv]
    · isplitl [Hx]; · iexact Hx
      iexact Hxv
    isplitl [Hl]; · iexact Hl
    isplitl [Hm]; · iexact Hm
    isplitl [Hred]; · iexact Hred
    iexact Hr0
  icases H with ⟨Hargs, Hscr, Zl, Zs⟩
  icases HI with ⟨-, HO⟩
  isplitl [Hout]; · iexact Hout
  isplitl [Hargs]; · iexact Hargs
  isplitl [Hscr]; · iexact Hscr
  isplitr [HO]
  · iapply (join_zeros (F := F) c)
    isplitl [Zx]; · iexact Zx
    isplitl [Zl]; · iexact Zl
    isplitl [Zb]; · iexact Zb
    isplitl [Zi]; · iexact Zi
    iexact Zs
  iexact HO

end Cert.KernelIdeal.Mlp

end
-- ==== Proof.Alloc.lean ====
/-
  The protocol's ghost state at the launch: a cell a semaphore, a right a duty, dealt to who performs it.
-/
module

public import proofs.«01_k».proof.Proof.Body

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel's own semaphores. -/
def osem (o : Own) : SemLoc sig := semOf (some o)

/-- The launch's semaphores are the kernel's own. -/
theorem ownSemFacts : Pipeline.OwnSemFacts cfg0.spec osem := by decide +kernel

/-! ## What is minted -/

/-- Every semaphore of every device. -/
def cellSet : Finset (GSem nD τ sig) := Finset.univ.map ⟨kcell, kcell_injective⟩

/-- The duties of a device's semaphores: a load's, a greeting's, a copy's. -/
abbrev Kind := Fin 7 ⊕ (Fin 15 ⊕ (Fin 4 × Fin 3 × Fin 15))

/-- Each duty's semaphore and place. -/
def kindOf : Kind → Cell × Duty
  | .inl i => (ld i, 0)
  | .inr (.inl r) => (bar, r)
  | .inr (.inr (f, l, r)) => (slot f l (off r), 0)

theorem off_injective : Function.Injective off := by decide +kernel

theorem kindOf_injective : Function.Injective kindOf := by
  rintro (i | r | ⟨f, l, r⟩) (i' | r' | ⟨f', l', r'⟩) h <;> simp [kindOf] at h
  · rw [h]
  · rw [h]
  · obtain ⟨h1, h2, h3⟩ := h
    rw [h1, h2, off_injective h3]

/-- The right to a duty, -/
def tokOf (x : Dev nD × Kind) : GSem nD τ sig × ℕ × Duty := (kcell (x.1, (kindOf x.2).1), 0, (kindOf x.2).2)

theorem tokOf_injective : Function.Injective tokOf := fun x x' h => by
  obtain ⟨h1, h2⟩ := Prod.ext_iff.mp h
  have h3 := Prod.ext_iff.mp (kcell_injective h1)
  exact Prod.ext h3.1 (kindOf_injective (Prod.ext h3.2 (Prod.ext_iff.mp h2).2))

/-- and all of them. -/
def tokSet : Finset (GSem nD τ sig × ℕ × Duty) := Finset.univ.map ⟨tokOf, tokOf_injective⟩

/-- What the launch is given to start with: its own and the protocol's. -/
def u₀ : UU := (initOf (Pipeline.cells cfgs cellOf_inj) (Pipeline.launchToks cfgs cellOf_inj), initOf cellSet tokSet)

variable (m : (ℓ : Loc nD τ sig) → Buf (Elt F) ℓ)

/-- The rights to the duties of device `c`'s semaphores. -/
def minted (c : Dev nD) : sProp 𝕄 :=
  iprop((bigSep Finset.univ fun i => tok (c, ld i) 0) ∗ (each fun r => tok (c, bar) r)
    ∗ bigSep Finset.univ fun l : Fin 3 => iprop((each fun r => tok (c, slot 0 l (off r)) 0) ∗ (each fun r => tok (c, slot 1 l (off r)) 0)
        ∗ (each fun r => tok (c, slot 2 l (off r)) 0) ∗ each fun r => tok (c, slot 3 l (off r)) 0))

/-- The rights, sorted by semaphore. -/
theorem minted_eq (c : Dev nD) :
    (bigSep Finset.univ fun k : Kind => dutyTok ER (tokOf (c, k)).1 (tokOf (c, k)).2.1 (tokOf (c, k)).2.2) = minted (F := F) c := by
  rw [bigSep_univ_sum, bigSep_univ_sum]
  unfold minted
  refine congrArg (fun X : sProp 𝕄 => iprop((bigSep Finset.univ fun i => tok (c, ld i) 0) ∗ (each fun r => tok (c, bar) r) ∗ X)) ?_
  rw [bigSep_univ_prod]
  refine (bigSep_congr fun f _ => bigSep_univ_prod fun p : Fin 3 × Fin 15 => (tok (F := F) (c, slot f p.1 (off p.2)) 0)).trans ?_
  rw [bigSep_univ_comm]
  exact bigSep_congr fun l _ => fours fun f => each fun r => tok (c, slot f l (off r)) 0

/-- What the launch gives device `c`. -/
def G (c : Dev nD) : sProp 𝕄 :=
  iprop((bigSep Finset.univ fun k => roundState ER (Rd m) (kcell (c, k)) 0)
    ∗ (bigSep Finset.univ fun k => iprop(at0 c k ∗ reached ER (kcell (c, k)) 0)) ∗ minted c)

/-- What was given, dealt out to the devices. -/
theorem fund_all : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Cell => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, bigSep_univ_prod]
    exact bigSep_congr fun c _ => minted_eq c
  iintro HX
  imod (Rounds.fund ER (Rd m) cellSet tokSet) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The invariants -/

/-- The barrier's counter at zero; -/
theorem unscoped_zero (c : Dev nD) : (unscopedSems0 c : sProp 𝕄) = semVal (kcell (c, bar)) 0 := by
  unfold unscopedSems0; rw [bigSep_eq_bigSepL_of_eq [SemLoc.reg barSem] (by decide) (by decide)]; rfl

/-- the others' too. -/
theorem own_zero (c : Dev nD) :
    (Pipeline.ownSems0 (Ix := Unit) (Name := ℕ) (U := UU) (Lvl := ℕ) (Val := Elt F) (τ := τ) osem c : sProp 𝕄)
      = bigSep Finset.univ fun o : Own => semVal (kcell (c, some o)) 0 := rfl

/-- One device's semaphores, put under the protocol. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(at0 c k ∗ reached ER (kcell (c, k)) 0)) ∗ minted c) := by
  have hz : (bigSep Finset.univ fun k : Cell => semVal (kcell (c, k)) 0 : sProp 𝕄)
      = iprop((bigSep Finset.univ fun o : Own => semVal (kcell (c, some o)) 0) ∗ semVal (kcell (c, bar)) 0) := by_cell _
  have hi : iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [own_zero, unscoped_zero]
  unfold G
  iintro ⟨Ho, Hu, Hst, Hat, Htok⟩
  imod hi $$ [Ho Hu Hst] with Hinv
  · rw [hz]
    isplitl [Ho Hu]
    · isplitl [Ho] <;> iassumption
    iexact Hst
  imodintro
  isplitl [Hinv]; · iexact Hinv
  isplitl [Hat]; · iexact Hat
  iexact Htok

/-! ## Dealing -/

/-- A step around the mesh is a permutation of the devices. -/
def stepEquiv (r : Fin 15) : Dev nD ≃ Dev nD where
  toFun c := peer c r
  invFun c := c - off r
  left_inv c := peer_sub c r
  right_inv := (by decide +kernel : ∀ (r : Fin 15) (c : Dev nD), peer (c - off r) r = c) r

/-- What every device has a peer, given to the device that has it as that peer. -/
theorem around (Φ : Dev nD → Fin 15 → sProp 𝕄) :
    (bigSep Finset.univ fun c : Dev nD => each fun r => Φ c r) = bigSep Finset.univ fun c : Dev nD => each fun r => Φ (peer c r) r := by
  rw [bigSep_univ_comm, bigSep_univ_comm fun (c : Dev nD) (r : Fin 15) => Φ (peer c r) r]
  exact bigSep_congr fun r _ => bigSep_univ_equiv (stepEquiv r) fun c => Φ c r

/-- The rights, with who performs the duties. -/
def dealt (c : Dev nD) : sProp 𝕄 :=
  iprop((bigSep Finset.univ fun i => tok (c, ld i) 0) ∗ (each fun r => tok (peer c r, bar) r) ∗ bigSep Finset.univ fun l => rights c l)

/-- The rights go round to those who perform the duties. -/
theorem deal : (bigSep Finset.univ fun c : Dev nD => minted (F := F) c) ⊢ bigSep Finset.univ fun c : Dev nD => dealt c := by
  have h (f : Fin 4) : (bigSep Finset.univ fun c : Dev nD => bigSep Finset.univ fun l : Fin 3 => each fun r => tok (F := F) (c, slot f l (off r)) 0)
      = bigSep Finset.univ fun c : Dev nD => bigSep Finset.univ fun l : Fin 3 => each fun r => tok (peer c r, slot f l (off r)) 0 := by
    rw [bigSep_univ_comm, bigSep_univ_comm fun (c : Dev nD) (l : Fin 3) => each fun r => tok (F := F) (peer c r, slot f l (off r)) 0]
    exact bigSep_congr fun l _ => around fun c r => tok (c, slot f l (off r)) 0
  unfold minted dealt rights
  simp only [bigSep_sep']
  rw [around fun c r => tok (F := F) (c, bar) r, h 1, h 3]

/-- What device `c` starts from, but for the credit and its buffers. -/
def G' (c : Dev nD) : sProp 𝕄 :=
  iprop(∃ K, (bigSep Finset.univ fun p => known m K p) ∗ dealt c ∗ bigSep Finset.univ fun k => at0 c k)

/-- What the devices start from. -/
theorem regroup :
    (bigSep Finset.univ fun c : Dev nD => iprop((bigSep Finset.univ fun k => iprop(∃ κ : ℕ, cellInv ER (Rd m) κ (kcell (c, k))))
          ∗ (bigSep Finset.univ fun k => iprop(at0 c k ∗ reached ER (kcell (c, k)) 0)) ∗ minted c) : sProp 𝕄)
      ⊢ bigSep Finset.univ (G' m) := by
  have hk (K : Dev nD × Cell → ℕ) : iprop((bigSep Finset.univ fun p => (cellInv ER (Rd m) (K p) (kcell p) : sProp 𝕄)) ∗ bigSep Finset.univ fun p => reached ER (kcell p) 0)
      = bigSep Finset.univ fun p => known m K p := (bigSep_sep' _ _ _).symm
  have hg (K : Dev nD × Cell → ℕ) (c : Dev nD) : iprop((bigSep Finset.univ fun p => known m K p) ∗ dealt c ∗ bigSep Finset.univ fun k => at0 c k) ⊢ G' m c := by
    unfold G'
    iintro H
    iexists K
    iexact H
  rw [bigSep_sep', bigSep_sep', ← bigSep_univ_prod (fun p : Dev nD × Cell => iprop(∃ κ : ℕ, cellInv ER (Rd m) κ (kcell p))),
    bigSep_congr (s := Finset.univ) (fun (c : Dev nD) _ => bigSep_sep' Finset.univ (fun k : Cell => at0 (F := F) c k) (fun k => reached ER (kcell (c, k)) 0)),
    bigSep_sep', ← bigSep_univ_prod (fun p : Dev nD × Cell => (reached ER (kcell p) 0 : sProp 𝕄))]
  iintro ⟨HI, ⟨Hat, HR⟩, Htok⟩
  ihave HK := (BI.bigSep_exists_pi Finset.univ (fun (p : Dev nD × Cell) (κ : ℕ) => (cellInv ER (Rd m) κ (kcell p) : sProp 𝕄))) $$ HI
  icases HK with ⟨%K, HI⟩
  ihave Htok := (deal (F := F)) $$ Htok
  ihave #HK := (Entails.of_eq (hk K)) $$ [HI HR]
  · isplitl [HI]; · iexact HI
    iexact HR
  iapply (BI.bigSep_with_persistent fun c _ => hg K c)
  isplitr; · iexact HK
  rw [bigSep_sep']
  isplitl [Htok]; · iexact Htok
  iexact Hat

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem sum_peers (f : Fin 15 → Owed) : (peers.map f).sum = ∑ r, f r := by
  rw [← List.sum_toFinset f (by decide +kernel : peers.Nodup)]
  exact Finset.sum_congr (by decide +kernel) fun _ _ => rfl

/-- What every device owes its peers, as each is owed it. -/
theorem credit (k : Fin 15 → Cell) (n : ℕ) (c : Dev nD) :
    (Pipeline.launchCred (fun d => (peers.map fun r => (tallyAt (kcell (peer d r, k r)) () n : Owed)).sum) c : sProp 𝕄)
      ⊢ each fun r => due c (k r) n := by
  simp only [sum_peers]
  rw [Pipeline.launchCred_sum Finset.univ (fun r d => (tallyAt (kcell (peer d r, k r)) () n : Owed)) c]
  exact bigSep_mono fun r _ =>
    Pipeline.launchCred_tallyAt (semOf (k r)) (fun d => peer d r) (fun d => d - off r) (stepEquiv r).right_inv (stepEquiv r).left_inv () n c

theorem cred_list {α : Type} (g : GSem nD τ sig) : ∀ l : List α, (bigSepL l fun _ => cred (tallyAt g () 1) : sProp 𝕄) ⊢ cred (tallyAt g () l.length)
  | [] => by rw [List.length_nil, tallyAt_zero, cred_zero]; exact Entails.of_eq rfl
  | a :: rest => by
    rw [sepL_cons, List.length_cons, Nat.add_comm, ← tallyAt_add]
    exact (sep_mono_right (cred_list g rest)).trans (cred_add _ _).2

/-- The units that the peers owe a device's barrier; -/
theorem credit_bar (c : Dev nD) : (Pipeline.launchCred (fun d => oBar d peers) c : sProp 𝕄) ⊢ due c bar 15 := by
  refine (credit (fun _ => bar) 1 c).trans ?_
  rw [each_list]
  exact cred_list (kcell (c, bar)) peers

/-- its landing slots; -/
theorem credit_layers (c : Dev nD) :
    (Pipeline.launchCred (fun d => oLayers d layers) c : sProp 𝕄) ⊢ bigSep Finset.univ fun l : Fin 3 => iprop(dues c l 1 ∗ dues c l 3) := by
  have e (d : Dev nD) : oLayers d layers = ∑ l : Fin 3, (oSlot 1 l d peers + oSlot 3 l d peers) := by
    unfold oLayers
    rw [← List.sum_toFinset _ (by decide +kernel : layers.Nodup)]
    exact Finset.sum_congr (by decide +kernel) fun _ _ => rfl
  simp only [e]
  rw [Pipeline.launchCred_sum Finset.univ (fun l d => oSlot 1 l d peers + oSlot 3 l d peers) c]
  refine bigSep_mono fun l _ => ?_
  rw [Pipeline.launchCred_add]
  exact BIClass.sep_mono (credit (fun r => slot 1 l (off r)) N8 c) (credit (fun r => slot 3 l (off r)) N8 c)

/-- and both. -/
theorem credits (c : Dev nD) :
    (Pipeline.launchCred O₀ c : sProp 𝕄) ⊢ iprop(due c bar 15 ∗ bigSep Finset.univ fun l : Fin 3 => iprop(dues c l 1 ∗ dues c l 3)) := by
  unfold O₀
  rw [Pipeline.launchCred_add]
  exact BIClass.sep_mono (credit_bar c) (credit_layers c)

end Cert.KernelIdeal.Mlp

end
-- ==== Proof.Run.lean ====
/-
  The run of the whole program, at any float values: the launch theorem at the body's specification.
-/
module

public import proofs.«01_k».proof.Proof.Alloc
public import proofs.«01_k».proof.Proof.Gen.KernelIdeal.Points
public import Idealize.ShloMosaic.Lib.Pipeline.CollectiveSegs
public import Idealize.ShloMosaic.Lib.Quiescent

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What device `c` holds of the protocol and of its arguments when the kernel starts. -/
def start (c : Dev nD) : sProp 𝕄 := iprop((∃ K, records m K) ∗ args m c ∗ part₀ c)

/-- What the body starts from; -/
def Φ₀ (c : Dev nD) : sProp 𝕄 := iprop(start m c ∗ scratch c)

/-- and what it leaves. -/
def Φ₁ (c : Dev nD) : sProp 𝕄 := iprop(args m c ∗ scratch c ∗ bigSep Finset.univ fun k : Cell => semVal (kcell (c, k)) 0)

/-- The run of the one region: what the result holds, and what goes along. -/
def dats (_ : Fin 1) (c : Dev nD) : Dat τ (Elt F) Unit ℕ UU ℕ cfg0 c where
  A w := m ((cfg0.win w).arr.view.loc (c : Thread nD τ))
  after w _ := match w with
    | ⟨0, _⟩ => act m 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

def bodyPre (c : Dev nD) : sProp 𝕄 :=
  iprop(Φ₀ m c ∗ (dats m 0 c).owesAt () t0_0.castSucc ∗ ∃ d, has c B₀.out fullShare ((dats m 0 c).before (0 : Fin 1) t0_0 d))

def bodyPost (c : Dev nD) : sProp 𝕄 :=
  iprop(Φ₁ m c ∗ (dats m 0 c).owesAt () t0_0.succ ∗ has c B₀.out fullShare (act m 3 c))

/-- The body runs from the one to the other. -/
theorem body_correct (c : Dev nD) : bodyPre m c ⊢ runs c (body B₀) fun _ => bodyPost m c := by
  unfold bodyPre bodyPost Φ₀ Φ₁ start Dat.owesAt Pipeline.owesWithin
  rw [show (dats m 0 c).owed t0_0.castSucc = O₀ c from rfl, show (dats m 0 c).owed t0_0.succ = 0 from rfl]
  iintro ⟨⟨⟨⟨%K, #Hr⟩, Hargs, Hp⟩, Hscr⟩, ⟨%W, -, HO⟩, ⟨%d, Hout⟩⟩
  iapply (runs_then (body_run m K c)) $$ [Hargs Hp Hscr HO Hout]
  · isplitr; · iexact Hr
    isplitl [Hargs]; · iexact Hargs
    isplitl [Hscr]; · iexact Hscr
    isplitl [Hp]; · iexact Hp
    isplitl [Hout]; · iapply (avail_of c B₀.out _); iexact Hout
    unfold ow
    iexists W
    iexact HO
  iintro %_ ⟨Hout, Hargs, Hscr, Hz, HO⟩
  unfold ow
  icases HO with ⟨%W', HO⟩
  isplitl [Hargs Hscr Hz]
  · isplitl [Hargs]; · iexact Hargs
    isplitl [Hscr]; · iexact Hscr
    iexact Hz
  isplitl [HO]
  · iexists W'
    isplitr; · ipureintro; exact fun _ _ => Or.inl trivial
    iexact HO
  iexact Hout

set_option maxRecDepth 65536 in
theorem body_obligation (c : Dev nD) : BodyObligation (dats (F := F) m 0 c) (defs₀ (F := F)) 𝒱₀ () Set.univ := fun t => by
  have e : cc0_body (F := F) (Memref.whole main_arg0) (Memref.isWhole_whole _) (Memref.whole main_arg1) (Memref.isWhole_whole _)
      (Memref.whole main_arg4) (Memref.isWhole_whole _) (Memref.whole main_arg2) (Memref.isWhole_whole _)
      (Memref.whole main_arg5) (Memref.isWhole_whole _) (Memref.whole main_arg3) (Memref.isWhole_whole _)
      (Memref.whole main_arg6) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scratch9 cc0_scratch10 cc0_scratch11
      = body B₀ := body_eq ..
  have h := body_correct m c
  rw [← e] at h
  rw [fin_N0 t, bigSep_W0, bigSep_W0]
  exact h

/-! ## Around the kernel -/

/-- Every buffer of the region is held whole. -/
theorem share_eq (c : Dev nD) (w : Fin cfg0.W) : (dats m 0 c).share w = fullShare := by unfold Dat.share; split <;> rfl

/-- The arguments are the buffers no window of the kernel has for its array. -/
theorem args_eq (c : Dev nD) :
    Pipeline.unscopedRest (Ix := Unit) (Name := ℕ) (U := UU) (Lvl := ℕ) spec0 c (fun b => m ((c : Thread nD τ).loc b)) = args m c := by
  have e (b : Ref sig .tc) (X : b.ty.Contents (Elt F)) : (((c : Thread nD τ).loc b) ↦{fullShare} X : sProp 𝕄) = owns (c : Thread nD τ) (Memref.whole b) fullShare X := by
    have h1 : (((c : Thread nD τ).loc b) ↦{fullShare} X : sProp 𝕄) ⊢ owns (c : Thread nD τ) (Memref.whole b) fullShare X := by
      rw [owns_whole_eq]
      iintro H; iexists X; isplitr; · ipureintro; rfl
      iexact H
    have h2 : owns (c : Thread nD τ) (Memref.whole b) fullShare X ⊢ (((c : Thread nD τ).loc b) ↦{fullShare} X : sProp 𝕄) := by
      rw [owns_whole_eq]
      iintro ⟨%f, %hf, H⟩
      subst hf; iexact H
    exact BI.Entails.antisymm h1 h2
  unfold args
  rw [unscopedRest0_eq, threes, threes]
  simp only [e]
  have a (A1 A2 A3 A4 A5 A6 A7 : sProp 𝕄) : iprop(A1 ∗ A2 ∗ A3 ∗ A4 ∗ A5 ∗ A6 ∗ A7) ⊢ iprop(A1 ∗ (A2 ∗ A3 ∗ A4) ∗ (A5 ∗ A6 ∗ A7)) := by
    iintro ⟨H1, H2, H3, H4, H5, H6, H7⟩
    isplitl [H1]; · iexact H1
    isplitl [H2 H3 H4]
    · isplitl [H2]; · iexact H2
      isplitl [H3] <;> iassumption
    isplitl [H5]; · iexact H5
    isplitl [H6] <;> iassumption
  have b (A1 A2 A3 A4 A5 A6 A7 : sProp 𝕄) : iprop(A1 ∗ (A2 ∗ A3 ∗ A4) ∗ (A5 ∗ A6 ∗ A7)) ⊢ iprop(A1 ∗ A2 ∗ A3 ∗ A4 ∗ A5 ∗ A6 ∗ A7) := by
    iintro ⟨H1, ⟨H2, H3, H4⟩, ⟨H5, H6, H7⟩⟩
    isplitl [H1]; · iexact H1
    isplitl [H2]; · iexact H2
    isplitl [H3]; · iexact H3
    isplitl [H4]; · iexact H4
    isplitl [H5]; · iexact H5
    isplitl [H6] <;> iassumption
  exact BI.Entails.antisymm (a _ _ _ _ _ _ _) (b _ _ _ _ _ _ _)

/-- What the launch gives is what the body starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have ha : Pipeline.unscopedRestP (Ix := Unit) (Name := ℕ) (U := UU) (Lvl := ℕ) Pipeline.Prefetch.none cfg0.spec c (fun b => m ((c : Thread nD τ).loc b)) ⊢ args m c := by
    rw [Pipeline.unscopedRestP_none]; exact Entails.of_eq (args_eq m c)
  unfold G' dealt start part₀ records levels
  iintro ⟨Hargs, Hlev, Hcr, -, ⟨%K, Hk, ⟨Tl, Tg, Tr⟩, Ha⟩⟩
  ihave Hargs := ha $$ Hargs
  ihave Hcr := (credits (F := F) c) $$ Hcr
  icases Hcr with ⟨Hb, Hd⟩
  imodintro
  isplitl
  · isplitl [Hk Hlev]
    · iexists K
      isplitl [Hk]; · iexact Hk
      iexact Hlev
    isplitl [Hargs]; · iexact Hargs
    isplitl [Tl]; · iexact Tl
    isplitl [Tg]; · iexact Tg
    isplitl [Tr]; · iexact Tr
    isplitl [Ha]; · iexact Ha
    isplitl [Hb]; · iexact Hb
    iexact Hd
  iempintro

/-- The private buffers. -/
theorem scratch_eq (c : Dev nD) : Pipeline.scopedRest (Ix := Unit) (Name := ℕ) (U := UU) (Lvl := ℕ) (Val := Elt F) spec0 c = scratch c := by
  have e (b : Ref sig .tc) : (iprop(∃ f : Buf (Elt F) ((c : Thread nD τ).loc b), ((c : Thread nD τ).loc b) ↦{fullShare} f) : sProp 𝕄)
      = iprop(∃ X, owns (c : Thread nD τ) (Memref.whole b) fullShare X) := by
    have h1 : (iprop(∃ f : Buf (Elt F) ((c : Thread nD τ).loc b), ((c : Thread nD τ).loc b) ↦{fullShare} f) : sProp 𝕄)
        ⊢ iprop(∃ X, owns (c : Thread nD τ) (Memref.whole b) fullShare X) := by
      simp only [owns_whole_eq]
      iintro ⟨%f, H⟩; iexists f; iexists f; isplitr; · ipureintro; rfl
      iexact H
    have h2 : iprop(∃ X, owns (c : Thread nD τ) (Memref.whole b) fullShare X)
        ⊢ (iprop(∃ f : Buf (Elt F) ((c : Thread nD τ).loc b), ((c : Thread nD τ).loc b) ↦{fullShare} f) : sProp 𝕄) := by
      simp only [owns_whole_eq]
      iintro ⟨%X, %f, -, H⟩; iexists f; iexact H
    exact BI.Entails.antisymm h1 h2
  rw [scopedRest0_eq]
  simp only [e]
  rfl

/-- the scratch buffers join it. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scratch_eq]
  unfold Φ₀
  iintro ⟨Hs, -, Hr⟩
  isplitl [Hs]; · iexact Hs
  iexact Hr

/-- What the body leaves gives everything back. -/
theorem phi1_exit (c : Dev nD) :
    (dats m 0 c).Φ (Fin.last cfg0.N) ⊢ iprop((args m c ∗ unscopedSems0 c) ∗ Pipeline.ownSems0 osem c ∗ Pipeline.scopedRest cfg0.spec c) := by
  rw [show (dats m 0 c).Φ (Fin.last cfg0.N) = Φ₁ m c from rfl, show cfg0.spec = spec0 from rfl, scratch_eq, own_zero, unscoped_zero]
  unfold Φ₁
  rw [by_cell]
  iintro ⟨Ha, Hr, Ho, Hb⟩
  isplitl [Ha Hb]
  · isplitl [Ha]; · iexact Ha
    iexact Hb
  isplitl [Ho]; · iexact Ho
  iexact Hr

/-- The region's own waits are allowed. -/
theorem waits (c : Dev nD) : (levAts L lv : sProp 𝕄) ⊢ Pipeline.cellsWaits cfgs (dats m) () 0 c :=
  Pipeline.cellsWaits_intro cfgs (dats m) () 0 c fun w s t =>
    mayWait (F := F) c _ _ 0 (by fin_cases w; fin_cases s; exact le_of_eq rfl) (by
      rcases t with ⟨_ | _, ht⟩
      · exact above_start c
      · exact Above.zero 0)

/-- What the kernel leaves on device `c`. -/
def Left (c : Dev nD) (s : MemSt nD τ sig (Elt F)) : Prop :=
  (∀ b ∈ (Finset.univ.filter fun b : Ref sig .tc => ¬ b.isScoped) \ Finset.univ.image (Pipeline.arrRef spec0),
      s.mem ((c : Thread nD τ).loc b) = m ((c : Thread nD τ).loc b))
    ∧ ∀ sm : SemLoc sig, sm.isScoped .tc = false → s.sem ((c.tc : Thread nD τ), sm) = 0

/-- What is left at the end says that the arguments are unchanged and the barrier's counter zero. -/
theorem left_read (c : Dev nD) (s' : Phys nD τ sig (Elt F)) :
    iprop((args m c ∗ unscopedSems0 c) ∗ emp ∗ SI s') ⊢ |={Set.univ}=> iprop(⌜Left m c s'.mem⌝ ∗ SI s') := by
  rw [← args_eq]
  unfold Pipeline.unscopedRest
  iintro ⟨⟨Ha, Hu⟩, -, HSI⟩
  ihave H := (pointsTo_read_all _ (fun b => (c : Thread nD τ).loc b) (fun b => m ((c : Thread nD τ).loc b)) s') $$ [Ha HSI]
  · isplitl [Ha] <;> iassumption
  icases H with ⟨%ha, HSI⟩
  imod (Pipeline.unscopedSems0_read (X := unscopedSems0 c) (c := c) fupd_intro s') $$ [Hu HSI] with ⟨%hs, HSI⟩
  · isplitl [Hu] <;> iassumption
  imodintro
  isplitr; · ipureintro; exact ⟨ha, hs⟩
  iexact HSI

/-- The result array holds the activations after three layers. -/
theorem result_eq (c : Dev nD) (X : Buf (Elt F) ((c : Thread nD τ).loc main_v1))
    (h : X = (dats m 0 c).arrAt (0 : Fin 1) cfg0.N) : X = act m 3 c := by
  have hz : (fun a => (win0_0.index (0 : Fin 1)) a * main_v1.ty.shape.size a) = fun _ => 0 :=
    funext fun a => by fin_cases a <;> decide
  have hr : (win0_0.blk (0 : Fin 1)).view.read (Elt F) X = X :=
    Memref.read_access_unit_zero (Elt F) main_v1 hz (fun a => by fin_cases a <;> decide) X
  have hw : (win0_0.blk (0 : Fin 1)).view.read (Elt F) X = act m 3 c := by
    rw [h, show cfg0.N = ((0 : Fin 1) : Fin cfg0.N).val + 1 from rfl, (dats m 0 c).arrAt_succ (0 : Fin 1) (0 : Fin 1),
      show (cfg0.win (0 : Fin 1)).flush (0 : Fin 1) = true from flush0_0 _, if_pos rfl]
    exact View.read_write_univ _ _
  exact hr.symm.trans hw

set_option maxRecDepth 65536 in
/-- From any memory, with every counter at zero, every weakly fair execution of the kernel on the sixteen devices
    terminates; every device then holds the activations after three layers, its arguments unchanged, and every
    semaphore counter is at zero. -/
theorem run_main : θ_run defs (onTc (τ := τ) (main (F := F))) ⟨m, fun _ => 0, ρ⟩ (fun r =>
    (∀ c : Dev nD, r.2.mem ((c : Thread nD τ).loc main_v1) = act m 3 c ∧ Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi0_intro m) (hout := phi1_exit m)
    (QY := Left m) (hY := left_read m)
    (hQ := fun _ h hs => ⟨fun c => ⟨result_eq m c _ ((h c).1 0), (h c).2.2⟩, sem_eq_zero hs fun c => (h c).2.2.2⟩)

/-- What is left unchanged holds the arguments. -/
theorem args_kept {m : (ℓ : Loc nD τ sig) → Buf (Elt F) ℓ} {c : Dev nD} {s : MemSt nD τ sig (Elt F)} (h : Left m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6) :=
  ⟨h.1 main_arg0 (by decide), h.1 main_arg1 (by decide), h.1 main_arg2 (by decide), h.1 main_arg3 (by decide),
    h.1 main_arg4 (by decide), h.1 main_arg5 (by decide), h.1 main_arg6 (by decide)⟩

end Cert.KernelIdeal.Mlp

end
-- ==== Proof.Value.lean ====
/- The value of a layer over the extended reals: what a device ends a layer with is one matrix product after the other
   over the whole weights.

   The devices' partial products are the reference's second product with its contraction cut into sixteen stretches
   of 256, so the sum over the devices is the whole contraction. Addition of extended reals commutes and associates
   everywhere, so the order in which a device adds, and infinities, do not matter. -/
module

public import proofs.«01_k».proof.Proof.Protocol
public import Idealize.ShloMosaic.Lib.Pointwise
public import Idealize.ShloMosaic.Lib.Pointwise.IndexBridge
public import Idealize.ShloMosaic.Lib.Layout

@[expose] public section

noncomputable section

namespace Cert.KernelIdeal.Mlp

open Cert.KernelIdeal Cert.KernelIdeal.Gen Idealize.ShloMosaic Idealize.ShloMosaic.TcCoe Idealize.SL.Sem

/-! ## The sum over the devices -/

/-- One step of the sum of a device's rows, at an entry. -/
theorem addRows_apply (P : Dev nD → S128x128.Idx → EReal) (c : Dev nD) (s : S8x128.Idx → EReal) (r : Fin 15) (j : S8x128.Idx) :
    addRows (F := Ideal) P c s r j = s j + rowsOf (P (c - off r)) c j := by
  unfold addRows accOf
  pointwise [k0_pay4]

/-- Several steps of it: the rows of the devices that far before, added up. -/
theorem addRows_foldl (P : Dev nD → S128x128.Idx → EReal) (c : Dev nD) (l : List (Fin 15)) (s : S8x128.Idx → EReal)
    (j : S8x128.Idx) :
    l.foldl (addRows (F := Ideal) P c) s j = s j + (l.map fun r => rowsOf (P (c - off r)) c j).sum := by
  induction l generalizing s with
  | nil => simp
  | cons r l ih => rw [List.foldl_cons, ih, addRows_apply, List.map_cons, List.sum_cons, add_assoc]

/-- A device's rows are summed over every device, each once. -/
theorem sumRows_apply (P : Dev nD → S128x128.Idx → EReal) (c : Dev nD) (j : S8x128.Idx) :
    sumRows (F := Ideal) P c j = ∑ d : Dev nD, rowsOf (P d) c j := by
  have hp : (peers.map fun r => rowsOf (P (c - off r)) c j).sum = ∑ r : Fin 15, rowsOf (P (c - off r)) c j := by
    rw [← List.sum_toFinset _ (by decide +kernel : peers.Nodup)]
    exact Finset.sum_congr (by decide +kernel) fun _ _ => rfl
  have ho : ∀ r : Fin 15, off r = r.succ := by decide
  unfold sumRows
  rw [addRows_foldl, hp]
  calc rowsOf (P c) c j + ∑ r : Fin 15, rowsOf (P (c - off r)) c j
      = ∑ o : Fin 16, rowsOf (P (c - o)) c j := by
        rw [Fin.sum_univ_succ fun o : Fin 16 => rowsOf (P (c - o)) c j, sub_zero]
        exact congrArg _ (Finset.sum_congr rfl fun r _ => by rw [ho])
    _ = ∑ d : Dev nD, rowsOf (P d) c j := Equiv.sum_comp (Equiv.subLeft c) fun d : Fin 16 => rowsOf (P d) c j

/-- Gathered, the sums of the rows are the sum over the devices. -/
theorem gather_sumRows (P : Dev nD → S128x128.Idx → EReal) (i : S128x128.Idx) :
    gather (sumRows (F := Ideal) P) i = ∑ d : Dev nD, P d i := by
  unfold gather
  rw [sumRows_apply]
  refine Finset.sum_congr rfl fun d _ => congrArg (P d) (funext fun a => Fin.ext ?_)
  have h0 : (i 0).val < 128 := (i 0).isLt
  match a with
  | 0 => show 8 * ((i 0).val / 8) + 1 * ((i 0).val % 8) = (i 0).val; omega
  | 1 => show 0 + 1 * (i 1).val = (i 1).val; omega

/-! ## A layer -/

/-- A device's partial product of a layer, at an entry: its 256 of the hidden entries. -/
theorem partOf_apply (m : (ℓ : Loc nD τ sig) → Buf (Elt Ideal) ℓ) (l : Fin 3) (X : Dev nD → S128x128.Idx → EReal) (d : Dev nD)
    (i : S128x128.Idx) :
    partOf (F := Ideal) m l X d i = ∑ h : Fin 256,
      max (∑ k : Fin 128, X d (ix2 (i 0) k) * winV m l d (ix2 k h)) 0 * woutV m l d (ix2 h (i 1)) := by
  unfold partOf partialOf
  pointwise [k0_pay15]

end Cert.KernelIdeal.Mlp

end
-- ==== Proof.Reference.lean ====
/- The reference's network, and its weights cut over the devices.

   A layer is two matrix products with a maximum with zero between them. Its value at an entry is a sum over 4096
   hidden entries, and device `d`'s weights are the stretch of 256 of them that starts at `256 * d`. -/
module

public import proofs.«01_k».proof.Proof.Gen.ReferenceIdeal.Run
public import Idealize.ShloMosaic.Lib.Pointwise
public import Idealize.ShloMosaic.Lib.Layout

@[expose] public section

noncomputable section

namespace Cert.ReferenceIdeal.Mlp

open Cert.ReferenceIdeal Cert.ReferenceIdeal.Gen Idealize.ShloMosaic Idealize.ShloMosaic.TcCoe Idealize.SL.Sem

/-- One layer of the reference. -/
def layer (x : FVec Ideal S128x128 .f32) (wi : FVec Ideal S128x4096 .f32) (wo : FVec Ideal S4096x128 .f32) :
    FVec Ideal S128x128 .f32 :=
  Host.dotGeneral dot_S128x4096_S4096x128_S128x128_1_0_0_1_n_n none
    (maximumf (Host.dotGeneral dot_S128x128_S128x4096_S128x4096_1_0_0_1_n_n none x wi)
      (broadcastInDim S128x4096 ![] bcast_S_S128x4096 (constant S_ .f32 0x00000000#32))) wo

/-- A layer at an entry. -/
theorem layer_apply (x : FVec Ideal S128x128 .f32) (wi : FVec Ideal S128x4096 .f32) (wo : FVec Ideal S4096x128 .f32)
    (i : S128x128.Idx) :
    layer x wi wo i
      = ∑ h : Fin 4096, max (∑ k : Fin 128, x (ix2 (i 0) k) * wi (ix2 k h)) 0 * wo (ix2 h (i 1)) := by
  unfold layer
  pointwise

/-- The place among all hidden entries of device `d`'s entry `h`. -/
def hidden (d : Fin 16) (h : Fin 256) : Fin 4096 := ⟨d.val * 256 + h.val, by omega⟩

/-- Each hidden entry is some device's, once. -/
theorem sum_hidden (f : Fin 4096 → EReal) : ∑ d : Fin 16, ∑ h : Fin 256, f (hidden d h) = ∑ H : Fin 4096, f H := by
  rw [← Finset.sum_product', Finset.univ_product_univ]
  refine Fintype.sum_equiv (finProdFinEquiv.trans (finCongr (by norm_num : 16 * 256 = 4096))) _ f fun p =>
    congrArg f (Fin.ext ?_)
  show p.1.val * 256 + p.2.val = p.2.val + 256 * p.1.val
  omega

/-- Device `d`'s block of a first matrix: its columns from `256 * d` on. -/
theorem block_cols (d : Fin 16) (v : S128x4096.Idx → EReal) (hT) (k : Fin 128) (h : Fin 256) :
    Layout.block ⟨2, ![128, 256]⟩ ⟨2, ![128, 4096]⟩ 1 16 d v hT (ix2 k h) = v (ix2 k (hidden d h)) :=
  congrArg v (funext fun a => Fin.ext (by
    match a with
    | 0 => exact hT.idx_val d (ix2 k h) 0
    | 1 => exact hT.idx_val d (ix2 k h) 1))

/-- Device `d`'s block of a second matrix: its rows from `256 * d` on. -/
theorem block_rows (d : Fin 16) (v : S4096x128.Idx → EReal) (hT) (h : Fin 256) (k : Fin 128) :
    Layout.block ⟨2, ![256, 128]⟩ ⟨2, ![4096, 128]⟩ 0 16 d v hT (ix2 h k) = v (ix2 (hidden d h) k) :=
  congrArg v (funext fun a => Fin.ext (by
    match a with
    | 0 => exact hT.idx_val d (ix2 h k) 0
    | 1 => exact hT.idx_val d (ix2 h k) 1))

/-- The devices' shares of a layer add up to the layer. -/
theorem layer_cut (x : FVec Ideal S128x128 .f32) (wi : FVec Ideal S128x4096 .f32) (wo : FVec Ideal S4096x128 .f32)
    (i : S128x128.Idx) (hi) (ho) :
    ∑ d : Fin 16, ∑ h : Fin 256,
        max (∑ k : Fin 128, x (ix2 (i 0) k) * Layout.block ⟨2, ![128, 256]⟩ ⟨2, ![128, 4096]⟩ 1 16 d wi hi (ix2 k h)) 0
          * Layout.block ⟨2, ![256, 128]⟩ ⟨2, ![4096, 128]⟩ 0 16 d wo ho (ix2 h (i 1))
      = layer x wi wo i := by
  rw [layer_apply]
  refine Eq.trans (Finset.sum_congr rfl fun d _ => Finset.sum_congr rfl fun h _ => ?_)
    (sum_hidden fun H => max (∑ k : Fin 128, x (ix2 (i 0) k) * wi (ix2 k H)) 0 * wo (ix2 H (i 1)))
  exact congrArg₂ (· * ·)
    (congrArg (max · 0) (Finset.sum_congr rfl fun k _ => congrArg _ (block_cols d wi hi k h))) (block_rows d wo ho h (i 1))

end Cert.ReferenceIdeal.Mlp

end
-- ==== Proof.Result.lean ====
/- The kernel's result is the reference's: after each of the three layers every device holds what the reference has
   after it. -/
module

public import proofs.«01_k».proof.Proof.Value
public import proofs.«01_k».proof.Proof.Reference
public import proofs.«01_k».proof.Defs

@[expose] public section

noncomputable section

namespace Cert.KernelIdeal.Mlp

open Cert.KernelIdeal Cert.KernelIdeal.Gen Idealize.ShloMosaic Idealize.ShloMosaic.TcCoe Idealize.SL.Sem
open Cert.ReferenceIdeal.Mlp (layer_cut)

/-- What a layer leaves on every device, when the activations were the same on all of them and the weights are the
    devices' blocks of whole ones: the reference's layer of those. -/
theorem layer_eq (m : (ℓ : Loc nD τ sig) → Buf (Elt Ideal) ℓ) (l : Fin 3) (x : S128x128.Idx → EReal)
    (wi : (⟨2, ![128, 4096]⟩ : Shape).Idx → EReal) (wo : (⟨2, ![4096, 128]⟩ : Shape).Idx → EReal)
    (hx : ∀ c, act m l.val c = x) (hT) (hT')
    (hi : ∀ c : Dev nD, winV m l c = Layout.block ⟨2, ![128, 256]⟩ ⟨2, ![128, 4096]⟩ 1 16 c wi hT)
    (ho : ∀ c : Dev nD, woutV m l c = Layout.block ⟨2, ![256, 128]⟩ ⟨2, ![4096, 128]⟩ 0 16 c wo hT') (c : Dev nD) :
    act m (l.val + 1) c = Cert.ReferenceIdeal.Mlp.layer x wi wo := by
  rw [act_succ]
  funext i
  rw [← layer_cut x wi wo i hT hT']
  unfold red
  rw [gather_sumRows]
  unfold part
  refine Finset.sum_congr rfl fun d _ => ?_
  rw [partOf_apply, hx d, hi d, ho d]

/-- Every device's result, from memories that hold the devices' parts of the reference's arguments: the three layers. -/
theorem result_value (m : (ℓ : Loc nD τ sig) → Buf (Elt Ideal) ℓ)
    (m' : (ℓ : Loc Cert.ReferenceIdeal.nD Cert.ReferenceIdeal.τ Cert.ReferenceIdeal.sig) → Buf (Elt Ideal) ℓ)
    (hm : ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread nD τ).loc main_arg5) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg5))
      ∧ m ((c.tc : Thread nD τ).loc main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6)))
    (c : Dev nD) :
    act m 3 c = Cert.ReferenceIdeal.Mlp.layer (Cert.ReferenceIdeal.Mlp.layer (Cert.ReferenceIdeal.Mlp.layer
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg4)))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg5)))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg6)) :=
  layer_eq m 2 _ _ _
    (layer_eq m 1 _ _ _
      (layer_eq m 0 _ _ _ (fun c => (hm c).1) _ _ (fun c => (hm c).2.1) (fun c => (hm c).2.2.2.2.1))
      _ _ (fun c => (hm c).2.2.1) (fun c => (hm c).2.2.2.2.2.1))
    _ _ (fun c => (hm c).2.2.2.1) (fun c => (hm c).2.2.2.2.2.2) c

end Cert.KernelIdeal.Mlp

end
-- ==== Proof.lean ====
/- The certificate of the three-layer network on sixteen devices.

   The kernel's run is `Cert.KernelIdeal.Mlp.run_main` (Proof/Run.lean), at any float values: every device ends with
   the activations after three layers in its result buffer, its arguments as they were, and every counter at zero.
   The frames are that read at bits and at the extended reals; the value is Proof/Result.lean's equation, three times. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

set_option maxRecDepth 65536 in
/-- The two printed kernels have one text, so one table of bodies, -/
theorem bodies_eq : Cert.Kernel.defs₀ (F := Bits) = Cert.KernelIdeal.defs₀ (F := Bits) :=
  congrArg Defs.onTc (funext fun l => by
    obtain rfl : l = 0 := Subsingleton.elim _ _
    funext ⟨t, s⟩
    rfl)

/-- and with the one call around it one table of everything. -/
theorem defs_eq : Cert.Kernel.defs (F := Bits) = Cert.KernelIdeal.defs (F := Bits) :=
  congrArg (Pipeline.defs Cert.KernelIdeal.pcfgs) bodies_eq

/-- The kernel on the chip's bits: it runs, keeps its arguments, and every counter ends at zero. -/
theorem frame_kernel : Cert.quiescent_Kernel := fun m ρ _ => by
  rw [defs_eq]
  exact (θ_run Cert.KernelIdeal.defs _ _).mono
    (fun _ h => ⟨fun c => Cert.KernelIdeal.Mlp.args_kept (h.1 c).2, h.2⟩)
    (Cert.KernelIdeal.Mlp.run_main (F := Bits) m ρ)

/-- The same over the extended reals. -/
theorem frame_kernelIdeal : Cert.quiescent_KernelIdeal := fun m ρ _ =>
  (θ_run Cert.KernelIdeal.defs _ _).mono
    (fun _ h => ⟨fun c => Cert.KernelIdeal.Mlp.args_kept (h.1 c).2, h.2⟩)
    (Cert.KernelIdeal.Mlp.run_main (F := Ideal) m ρ)

/-- The reference: its run, which writes no argument and has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := by
  intro m ρ m' ρ' _ hm
  refine ⟨_, (θ_run Cert.KernelIdeal.defs _ _).mono
      (fun _ h c => ⟨(h.1 c).1.trans (Cert.KernelIdeal.Mlp.result_value m m' hm c), Cert.KernelIdeal.Mlp.args_kept (h.1 c).2⟩)
      (Cert.KernelIdeal.Mlp.run_main (F := Ideal) m ρ),
    (θ_run Cert.ReferenceIdeal.defs _ _).mono (fun _ h => h 0) (Cert.ReferenceIdeal.Value.run (F := Ideal) m' ρ')⟩

/-- The whole certificate. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
